-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S4x8192x3 : Shape := ⟨3, ![4, 8192, 3]⟩
abbrev S64x3 : Shape := ⟨2, ![64, 3]⟩
abbrev S128x64 : Shape := ⟨2, ![128, 64]⟩
abbrev S128 : Shape := ⟨1, ![128]⟩
abbrev S4x8192x1 : Shape := ⟨3, ![4, 8192, 1]⟩
abbrev S4x8192 : Shape := ⟨2, ![4, 8192]⟩
abbrev S4x1x8192 : Shape := ⟨3, ![4, 1, 8192]⟩
abbrev S4x8192x8192 : Shape := ⟨3, ![4, 8192, 8192]⟩
abbrev S_ : Shape := ⟨0, ![]⟩
abbrev S4x8192x17 : Shape := ⟨3, ![4, 8192, 17]⟩
abbrev S4x8192x16 : Shape := ⟨3, ![4, 8192, 16]⟩

class Facts : Prop where
  slices_S4x8192x3_S4x8192x1_0_0_0 : S4x8192x3.Slices ![0, 0, 0] S4x8192x1
  shapeCasts_S4x8192x1_S4x8192 : S4x8192x1.ShapeCasts S4x8192
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  slices_S4x8192x3_S4x8192x1_0_0_1 : S4x8192x3.Slices ![0, 0, 1] S4x8192x1
  slices_S4x8192x3_S4x8192x1_0_0_2 : S4x8192x3.Slices ![0, 0, 2] S4x8192x1
  sliceFits_S4x8192x8192_S4x8192x17 : S4x8192x8192.Slices (fun _ => 0) S4x8192x17
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  slices_S4x8192x17_S4x8192x16_0_0_1 : S4x8192x17.Slices ![0, 0, 1] S4x8192x16
  slices_S4x8192x17_S4x8192x16_0_0_0 : S4x8192x17.Slices ![0, 0, 0] S4x8192x16
  reducesTo_S4x8192x16_S_d0_1_2 : S4x8192x16.ReducesTo [0, 1, 2] S_

variable [Facts]

def fn_part2 {F : FTy → Type} [FloatOps F] (main_v38 : IVec S_ 1) (main_v41 : IVec S4x8192x16 1) (main_c_1 : IVec S_ 1) : IVec S_ 1 :=
  let main_v42 : IVec S_ 1 := (fun x v => Host.reduce IntOp.andi x v reducesTo_S4x8192x16_S_d0_1_2 h_S_) main_v41 main_c_1
  let main_v43 : IVec S_ 1 := andi main_v38 main_v42
  main_v43

def fn_part1 {F : FTy → Type} [FloatOps F] (main_arg0 : FVec F S4x8192x3 .f32) (main_v22 : FVec F S4x8192x8192 .f32) : IVec S_ 1 :=
  let main_v23 : FVec F S4x8192x1 .f32 := (extractStridedSlice S4x8192x1 ![0, 0, 2] · slices_S4x8192x3_S4x8192x1_0_0_2) main_arg0
  let main_v24 : FVec F S4x8192 .f32 := shapeCast S4x8192 main_v23 shapeCasts_S4x8192x1_S4x8192
  let main_v25 : FVec F S4x8192x1 .f32 := broadcastInDim S4x8192x1 ![0, 1] bcast_S4x8192_S4x8192x1_0_1 main_v24
  let main_v26 : FVec F S4x8192x1 .f32 := (extractStridedSlice S4x8192x1 ![0, 0, 2] · slices_S4x8192x3_S4x8192x1_0_0_2) main_arg0
  let main_v27 : FVec F S4x8192 .f32 := shapeCast S4x8192 main_v26 shapeCasts_S4x8192x1_S4x8192
  let main_v28 : FVec F S4x1x8192 .f32 := broadcastInDim S4x1x8192 ![0, 2] bcast_S4x8192_S4x1x8192_0_2 main_v27
  let main_v29 : FVec F S4x8192x8192 .f32 := broadcastInDim S4x8192x8192 ![0, 1, 2] bcast_S4x8192x1_S4x8192x8192_0_1_2 main_v25
  let main_v30 : FVec F S4x8192x8192 .f32 := broadcastInDim S4x8192x8192 ![0, 1, 2] bcast_S4x1x8192_S4x8192x8192_0_1_2 main_v28
  let main_v31 : FVec F S4x8192x8192 .f32 := subf main_v29 main_v30
  let main_v32 : FVec F S4x8192x8192 .f32 := mulf main_v31 main_v31
  let main_v33 : FVec F S4x8192x8192 .f32 := addf main_v22 main_v32
  let main_v34 : FVec F S4x8192x8192 .f32 := Host.negf main_v33
  let main_values : FVec F S4x8192x17 .f32 := (fun x => (Host.topK S4x8192x17 2 (FloatOps.cmpfTotal .gt) x sliceFits_S4x8192x8192_S4x8192x17).1) main_v34
  let main_indices : IVec S4x8192x17 32 := (fun x => (Host.topK S4x8192x17 2 (FloatOps.cmpfTotal .gt) x sliceFits_S4x8192x8192_S4x8192x17).2) main_v34
  let main_v35 : FVec F S4x8192x3 .f32 := Host.absf main_arg0
  let main_cst_0 : FVec F S_ .f32 := constant S_ .f32 0x56B5E621#32
  let main_v36 : FVec F S4x8192x3 .f32 := broadcastInDim S4x8192x3 ![] bcast_S_S4x8192x3 main_cst_0
  let main_v37 : IVec S4x8192x3 1 := cmpf .ole main_v35 main_v36
  let main_c : IVec S_ 1 := constantI S_ 1 1#1
  let main_v38 : IVec S_ 1 := (fun x v => Host.reduce IntOp.andi x v reducesTo_S4x8192x3_S_d0_1_2 h_S_) main_v37 main_c
  let main_v39 : FVec F S4x8192x16 .f32 := (extractStridedSlice S4x8192x16 ![0, 0, 1] · slices_S4x8192x17_S4x8192x16_0_0_1) main_values
  let main_v40 : FVec F S4x8192x16 .f32 := (extractStridedSlice S4x8192x16 ![0, 0, 0] · slices_S4x8192x17_S4x8192x16_0_0_0) main_values
  let main_v41 : IVec S4x8192x16 1 := cmpf .olt main_v39 main_v40
  let main_c_1 : IVec S_ 1 := constantI S_ 1 1#1
  fn_part2 (F := F) main_v38 main_v41 main_c_1

def fn {F : FTy → Type} [FloatOps F] (main_arg0 : FVec F S4x8192x3 .f32) (main_arg1 : FVec F S64x3 .f32) (main_arg2 : FVec F S128x64 .f32) (main_arg3 : FVec F S128 .f32) : IVec S_ 1 :=
  let main_v0 : FVec F S4x8192x1 .f32 := (extractStridedSlice S4x8192x1 ![0, 0, 0] · slices_S4x8192x3_S4x8192x1_0_0_0) main_arg0
  let main_v1 : FVec F S4x8192 .f32 := shapeCast S4x8192 main_v0 shapeCasts_S4x8192x1_S4x8192
  let main_v2 : FVec F S4x8192x1 .f32 := broadcastInDim S4x8192x1 ![0, 1] bcast_S4x8192_S4x8192x1_0_1 main_v1
  let main_v3 : FVec F S4x8192x1 .f32 := (extractStridedSlice S4x8192x1 ![0, 0, 0] · slices_S4x8192x3_S4x8192x1_0_0_0) main_arg0
  let main_v4 : FVec F S4x8192 .f32 := shapeCast S4x8192 main_v3 shapeCasts_S4x8192x1_S4x8192
  let main_v5 : FVec F S4x1x8192 .f32 := broadcastInDim S4x1x8192 ![0, 2] bcast_S4x8192_S4x1x8192_0_2 main_v4
  let main_v6 : FVec F S4x8192x8192 .f32 := broadcastInDim S4x8192x8192 ![0, 1, 2] bcast_S4x8192x1_S4x8192x8192_0_1_2 main_v2
  let main_v7 : FVec F S4x8192x8192 .f32 := broadcastInDim S4x8192x8192 ![0, 1, 2] bcast_S4x1x8192_S4x8192x8192_0_1_2 main_v5
  let main_v8 : FVec F S4x8192x8192 .f32 := subf main_v6 main_v7
  let main_v9 : FVec F S4x8192x8192 .f32 := mulf main_v8 main_v8
  let main_cst : FVec F S_ .f32 := constant S_ .f32 0x00000000#32
  let main_v10 : FVec F S4x8192x8192 .f32 := broadcastInDim S4x8192x8192 ![] bcast_S_S4x8192x8192 main_cst
  let main_v11 : FVec F S4x8192x8192 .f32 := addf main_v10 main_v9
  let main_v12 : FVec F S4x8192x1 .f32 := (extractStridedSlice S4x8192x1 ![0, 0, 1] · slices_S4x8192x3_S4x8192x1_0_0_1) main_arg0
  let main_v13 : FVec F S4x8192 .f32 := shapeCast S4x8192 main_v12 shapeCasts_S4x8192x1_S4x8192
  let main_v14 : FVec F S4x8192x1 .f32 := broadcastInDim S4x8192x1 ![0, 1] bcast_S4x8192_S4x8192x1_0_1 main_v13
  let main_v15 : FVec F S4x8192x1 .f32 := (extractStridedSlice S4x8192x1 ![0, 0, 1] · slices_S4x8192x3_S4x8192x1_0_0_1) main_arg0
  let main_v16 : FVec F S4x8192 .f32 := shapeCast S4x8192 main_v15 shapeCasts_S4x8192x1_S4x8192
  let main_v17 : FVec F S4x1x8192 .f32 := broadcastInDim S4x1x8192 ![0, 2] bcast_S4x8192_S4x1x8192_0_2 main_v16
  let main_v18 : FVec F S4x8192x8192 .f32 := broadcastInDim S4x8192x8192 ![0, 1, 2] bcast_S4x8192x1_S4x8192x8192_0_1_2 main_v14
  let main_v19 : FVec F S4x8192x8192 .f32 := broadcastInDim S4x8192x8192 ![0, 1, 2] bcast_S4x1x8192_S4x8192x8192_0_1_2 main_v17
  let main_v20 : FVec F S4x8192x8192 .f32 := subf main_v18 main_v19
  let main_v21 : FVec F S4x8192x8192 .f32 := mulf main_v20 main_v20
  let main_v22 : FVec F S4x8192x8192 .f32 := addf main_v11 main_v21
  fn_part1 (F := F) main_arg0 main_v22
-- ==== Kernel.lean ====
abbrev S4x8192x3 : Shape := ⟨3, ![4, 8192, 3]⟩
abbrev S64x3 : Shape := ⟨2, ![64, 3]⟩
abbrev S128x64 : Shape := ⟨2, ![128, 64]⟩
abbrev S128 : Shape := ⟨1, ![128]⟩
abbrev S4x3x8192 : Shape := ⟨3, ![4, 3, 8192]⟩
abbrev S1x128 : Shape := ⟨2, ![1, 128]⟩
abbrev S4x8192x128 : Shape := ⟨3, ![4, 8192, 128]⟩
abbrev S4x8192x16 : Shape := ⟨3, ![4, 8192, 16]⟩
abbrev S1x256x3 : Shape := ⟨3, ![1, 256, 3]⟩
abbrev S1x3x8192 : Shape := ⟨3, ![1, 3, 8192]⟩
abbrev S1x8192x3 : Shape := ⟨3, ![1, 8192, 3]⟩
abbrev S1x256x128 : Shape := ⟨3, ![1, 256, 128]⟩
abbrev S1x256x16 : Shape := ⟨3, ![1, 256, 16]⟩
abbrev S256x3 : Shape := ⟨2, ![256, 3]⟩
abbrev S3x8192 : Shape := ⟨2, ![3, 8192]⟩
abbrev S8192x3 : Shape := ⟨2, ![8192, 3]⟩
abbrev S256 : Shape := ⟨1, ![256]⟩
abbrev S256x1 : Shape := ⟨2, ![256, 1]⟩
abbrev S8192 : Shape := ⟨1, ![8192]⟩
abbrev S1x8192 : Shape := ⟨2, ![1, 8192]⟩
abbrev S256x8192 : Shape := ⟨2, ![256, 8192]⟩
abbrev S256x16 : Shape := ⟨2, ![256, 16]⟩
abbrev S256x64 : Shape := ⟨2, ![256, 64]⟩
abbrev S256x128 : Shape := ⟨2, ![256, 128]⟩
abbrev S4x128x8192 : Shape := ⟨3, ![4, 128, 8192]⟩

abbrev nBuf : Space → Nat
  | .hbm => 9
  | .vmem => 13
  | .smem => 0
  | _ => 0

abbrev bufTy : (tb : Table) → Fin (tcTables nBuf tb) → BufTy
  | .hbm, ⟨0, _⟩ => ⟨S4x8192x3, .f32⟩
  | .hbm, ⟨1, _⟩ => ⟨S64x3, .f32⟩
  | .hbm, ⟨2, _⟩ => ⟨S128x64, .f32⟩
  | .hbm, ⟨3, _⟩ => ⟨S128, .f32⟩
  | .hbm, ⟨4, _⟩ => ⟨S4x3x8192, .f32⟩
  | .hbm, ⟨5, _⟩ => ⟨S1x128, .f32⟩
  | .hbm, ⟨6, _⟩ => ⟨S4x8192x128, .f32⟩
  | .hbm, ⟨7, _⟩ => ⟨S4x8192x16, .i32⟩
  | .hbm, ⟨8, _⟩ => ⟨S4x128x8192, .f32⟩
  | .local _ .vmem, ⟨0, _⟩ => ⟨S1x256x3, .f32⟩
  | .local _ .vmem, ⟨1, _⟩ => ⟨S1x256x3, .f32⟩
  | .local _ .vmem, ⟨2, _⟩ => ⟨S1x3x8192, .f32⟩
  | .local _ .vmem, ⟨3, _⟩ => ⟨S1x3x8192, .f32⟩
  | .local _ .vmem, ⟨4, _⟩ => ⟨S1x8192x3, .f32⟩
  | .local _ .vmem, ⟨5, _⟩ => ⟨S1x8192x3, .f32⟩
  | .local _ .vmem, ⟨6, _⟩ => ⟨S64x3, .f32⟩
  | .local _ .vmem, ⟨7, _⟩ => ⟨S128x64, .f32⟩
  | .local _ .vmem, ⟨8, _⟩ => ⟨S1x128, .f32⟩
  | .local _ .vmem, ⟨9, _⟩ => ⟨S1x256x128, .f32⟩
  | .local _ .vmem, ⟨10, _⟩ => ⟨S1x256x128, .f32⟩
  | .local _ .vmem, ⟨11, _⟩ => ⟨S1x256x16, .i32⟩
  | .local _ .vmem, ⟨12, _⟩ => ⟨S1x256x16, .i32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 32], ![false, false]⟩

@[reducible] def k0_t1_loop : Scf.Loop 32 :=
  let c0_i32_14 : BitVec 32 := 0#32
  let c16_i32 : BitVec 32 := 16#32
  let v24 : BitVec 32 := Scalar.addi c0_i32_14 c16_i32
  let c1_i32 : BitVec 32 := 1#32
  ⟨c0_i32_14, v24, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x16 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x8192x3 : Shape := ⟨3, ![4, 8192, 3]⟩
abbrev S64x3 : Shape := ⟨2, ![64, 3]⟩
abbrev S128x64 : Shape := ⟨2, ![128, 64]⟩
abbrev S128 : Shape := ⟨1, ![128]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4x8192x16 : Shape := ⟨3, ![4, 8192, 16]⟩
abbrev S4x3x8192 : Shape := ⟨3, ![4, 3, 8192]⟩
abbrev S4x8192x15 : Shape := ⟨3, ![4, 8192, 15]⟩
abbrev S4x3x1x8192 : Shape := ⟨4, ![4, 3, 1, 8192]⟩
abbrev S4x1x8192x15 : Shape := ⟨4, ![4, 1, 8192, 15]⟩
abbrev S4x8192x15x1 : Shape := ⟨4, ![4, 8192, 15, 1]⟩
abbrev S1 : Shape := ⟨1, ![1]⟩
abbrev S1x1x1x1 : Shape := ⟨4, ![1, 1, 1, 1]⟩
abbrev S4x3x8192x15 : Shape := ⟨4, ![4, 3, 8192, 15]⟩
abbrev S4x3x8192x1 : Shape := ⟨4, ![4, 3, 8192, 1]⟩
abbrev S4x8192x15x64 : Shape := ⟨4, ![4, 8192, 15, 64]⟩
abbrev S4x64x8192x15 : Shape := ⟨4, ![4, 64, 8192, 15]⟩
abbrev S4x64x8192 : Shape := ⟨3, ![4, 64, 8192]⟩
abbrev S4x8192x128 : Shape := ⟨3, ![4, 8192, 128]⟩
abbrev S4x128x8192 : Shape := ⟨3, ![4, 128, 8192]⟩
abbrev S1x128x1 : Shape := ⟨3, ![1, 128, 1]⟩

abbrev nBuf : Space → Nat
  | .hbm => 81
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S64x3, .f32⟩
  | .hbm, ⟨2, _⟩ => ⟨S128x64, .f32⟩
  | .hbm, ⟨3, _⟩ => ⟨S128, .f32⟩
  | .hbm, ⟨4, _⟩ => ⟨S4x8192x3, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S4x8192x3, .f32⟩
  | .hbm, ⟨9, _⟩ => ⟨S_, .f32⟩
  | .hbm, ⟨10, _⟩ => ⟨S4x8192, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S4x8192x8192, .f32⟩
  | .hbm, ⟨21, _⟩ => ⟨S4x8192x16, .f32⟩
  | .hbm, ⟨22, _⟩ => ⟨S4x8192x16, .i32⟩
  | .hbm, ⟨23, _⟩ => ⟨S4x3x8192, .f32⟩
  | .hbm, ⟨24, _⟩ => ⟨S4x8192x15, .i32⟩
  | .hbm, ⟨25, _⟩ => ⟨S4x3x1x8192, .f32⟩
  | .hbm, ⟨26, _⟩ => ⟨S4x1x8192x15, .i32⟩
  | .hbm, ⟨27, _⟩ => ⟨S_, .i32⟩
  | .hbm, ⟨28, _⟩ => ⟨S4x1x8192x15, .i32⟩
  | .hbm, ⟨29, _⟩ => ⟨S4x1x8192x15, .i1⟩
  | .hbm, ⟨30, _⟩ => ⟨S_, .i32⟩
  | .hbm, ⟨31, _⟩ => ⟨S4x1x8192x15, .i32⟩
  | .hbm, ⟨32, _⟩ => ⟨S4x1x8192x15, .i32⟩
  | .hbm, ⟨33, _⟩ => ⟨S4x1x8192x15, .i32⟩
  | .hbm, ⟨34, _⟩ => ⟨S4x8192x15x1, .i32⟩
  | .hbm, ⟨35, _⟩ => ⟨S4x3x8192, .f32⟩
  | .hbm, ⟨36, _⟩ => ⟨S1, .i32⟩
  | .hbm, ⟨37, _⟩ => ⟨S_, .i32⟩
  | .hbm, ⟨38, _⟩ => ⟨S4x8192x15x1, .i32⟩
  | .hbm, ⟨39, _⟩ => ⟨S4x8192x15x1, .i1⟩
  | .hbm, ⟨40, _⟩ => ⟨S1x1x1x1, .i32⟩
  | .hbm, ⟨41, _⟩ => ⟨S4x8192x15x1, .i32⟩
  | .hbm, ⟨42, _⟩ => ⟨S4x8192x15x1, .i1⟩
  | .hbm, ⟨43, _⟩ => ⟨S4x8192x15x1, .i1⟩
  | .hbm, ⟨44, _⟩ => ⟨S_, .i1⟩
  | .hbm, ⟨45, _⟩ => ⟨S4x8192x15, .i1⟩
  | .hbm, ⟨46, _⟩ => ⟨S4x3x8192x15, .f32⟩
  | .hbm, ⟨47, _⟩ => ⟨S4x3x8192x15, .i1⟩
  | .hbm, ⟨48, _⟩ => ⟨S_, .f32⟩
  | .hbm, ⟨49, _⟩ => ⟨S4x3x8192x15, .f32⟩
  | .hbm, ⟨50, _⟩ => ⟨S4x3x8192x15, .f32⟩
  | .hbm, ⟨51, _⟩ => ⟨S4x3x8192, .f32⟩
  | .hbm, ⟨52, _⟩ => ⟨S4x3x8192x1, .f32⟩
  | .hbm, ⟨53, _⟩ => ⟨S4x3x8192x15, .f32⟩
  | .hbm, ⟨54, _⟩ => ⟨S4x3x8192x15, .f32⟩
  | .hbm, ⟨55, _⟩ => ⟨S4x3x8192x15, .f32⟩
  | .hbm, ⟨56, _⟩ => ⟨S_, .f32⟩
  | .hbm, ⟨57, _⟩ => ⟨S4x8192x15, .f32⟩
  | .hbm, ⟨58, _⟩ => ⟨S4x1x8192x15, .f32⟩
  | .hbm, ⟨59, _⟩ => ⟨S4x1x8192x15, .f32⟩
  | .hbm, ⟨60, _⟩ => ⟨S_, .f32⟩
  | .hbm, ⟨61, _⟩ => ⟨S4x1x8192x15, .f32⟩
  | .hbm, ⟨62, _⟩ => ⟨S4x1x8192x15, .f32⟩
  | .hbm, ⟨63, _⟩ => ⟨S4x8192x15x64, .f32⟩
  | .hbm, ⟨64, _⟩ => ⟨S4x64x8192x15, .f32⟩
  | .hbm, ⟨65, _⟩ => ⟨S4x64x8192x15, .f32⟩
  | .hbm, ⟨66, _⟩ => ⟨S4x64x8192x15, .f32⟩
  | .hbm, ⟨67, _⟩ => ⟨S4x64x8192x15, .f32⟩
  | .hbm, ⟨68, _⟩ => ⟨S4x64x8192x15, .f32⟩
  | .hbm, ⟨69, _⟩ => ⟨S4x64x8192x15, .f32⟩
  | .hbm, ⟨70, _⟩ => ⟨S4x64x8192x15, .f32⟩
  | .hbm, ⟨71, _⟩ => ⟨S_, .f32⟩
  | .hbm, ⟨72, _⟩ => ⟨S4x64x8192, .f32⟩
  | .hbm, ⟨73, _⟩ => ⟨S4x8192x128, .f32⟩
  | .hbm, ⟨74, _⟩ => ⟨S4x128x8192, .f32⟩
  | .hbm, ⟨75, _⟩ => ⟨S1x128x1, .f32⟩
  | .hbm, ⟨76, _⟩ => ⟨S4x128x8192, .f32⟩
  | .hbm, ⟨77, _⟩ => ⟨S4x128x8192, .f32⟩
  | .hbm, ⟨78, _⟩ => ⟨S_, .f32⟩
  | .hbm, ⟨79, _⟩ => ⟨S4x128x8192, .f32⟩
  | .hbm, ⟨80, _⟩ => ⟨S4x128x8192, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_values : Ref sig .tc := ⟨.hbm, 21, rfl⟩
abbrev main_indices : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_c_1 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_c_3 : Ref sig .tc := ⟨.hbm, 44, rfl⟩
abbrev main_call0_v13 : Ref sig .tc := ⟨.hbm, 45, rfl⟩
abbrev main_call0_v14 : Ref sig .tc := ⟨.hbm, 46, rfl⟩
abbrev main_call0_v15 : Ref sig .tc := ⟨.hbm, 47, rfl⟩
abbrev main_call0_cst : Ref sig .tc := ⟨.hbm, 48, rfl⟩
abbrev main_call0_v16 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call1_v0 : Ref sig .tc := ⟨.hbm, 55, rfl⟩
abbrev main_call1_cst : Ref sig .tc := ⟨.hbm, 56, rfl⟩
abbrev main_call1_v1 : Ref sig .tc := ⟨.hbm, 57, rfl⟩
abbrev main_call1_v2 : Ref sig .tc := ⟨.hbm, 58, rfl⟩
abbrev main_v23 : Ref sig .tc := ⟨.hbm, 59, rfl⟩
abbrev main_cst_2 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_3 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_call2_cst : Ref sig .tc := ⟨.hbm, 78, rfl⟩
abbrev main_call2_v0 : Ref sig .tc := ⟨.hbm, 79, rfl⟩
abbrev main_v40 : Ref sig .tc := ⟨.hbm, 80, rfl⟩

abbrev nD : Nat := 1
abbrev τ : Topo := Topo.v7x

variable {F : FTy → Type} [FloatOps F]
-- ==== Proof.Block.lean ====
/-
  What one grid point of the kernel stores: the sixteen trips of its loop, folded over the values the loads read, then the
  last product with the shape weights.
-/
module

public import proofs.«01_k».proof.Proof.Gen.KernelIdeal.Frame
public import Idealize.ShloMosaic.Lib.Pipeline.Value
public import Idealize.ShloMosaic.Lib.Tactic
public import Idealize.ShloMosaic.Lib.Pointwise

@[expose] public section

noncomputable section

open Idealize.ShloMosaic Idealize.ShloMosaic.TcCoe Idealize.SL.Sem
open Idealize.ShloMosaic.Pipeline (Dat)

namespace Cert.KernelIdeal.Block

open Cert.KernelIdeal Cert.KernelIdeal.Gen

variable {F : FTy → Type} [FloatOps F]

/-- What the loop carries: the distances still in play, the best scores so far, the columns found so far. -/
abbrev Carry (F : FTy → Type) : Type := FVec F S256x8192 .f32 × FVec F S256x64 .f32 × IVec S256x16 32

/-- One trip of the loop, as a function of what it carries. -/
def trip (q : Vec F S1x256x3 .f32) (p : Vec F S1x8192x3 .f32) (w : Vec F S64x3 .f32)
    (k : Fin k0_t1_loop.trips) (s : Carry F) : Carry F :=
  (k0_pay9 s.1, k0_pay11 q p w k s.1 s.2.1, k0_pay10 k s.1 s.2.2)

/-- What the loop starts from. -/
def start (q : Vec F S1x256x3 .f32) (pt : Vec F S1x3x8192 .f32) : Carry F := (k0_pay4 q pt, k0_pay5, k0_pay6)

/-- What the loop ends with. -/
def looped (q : Vec F S1x256x3 .f32) (pt : Vec F S1x3x8192 .f32) (p : Vec F S1x8192x3 .f32) (w : Vec F S64x3 .f32) : Carry F :=
  (List.finRange k0_t1_loop.trips).foldl (fun s k => trip q p w k s) (start q pt)

theorem zeros2 : (![0, 0] : Fin 2 → Nat) = fun _ => 0 := funext fun a => by fin_cases a <;> rfl
theorem zeros3 : (![0, 0, 0] : Fin 3 → Nat) = fun _ => 0 := funext fun a => by fin_cases a <;> rfl

variable (c : Dev nD) (i : grid0.Coords)
  (arg2 : Memref sig .tc .vmem S1x256x3 .f32) (harg2 : arg2.IsWhole) (arg3 : Memref sig .tc .vmem S1x3x8192 .f32) (harg3 : arg3.IsWhole)
  (arg4 : Memref sig .tc .vmem S1x8192x3 .f32) (harg4 : arg4.IsWhole) (arg5 : Memref sig .tc .vmem S64x3 .f32) (harg5 : arg5.IsWhole)
  (arg6 : Memref sig .tc .vmem S128x64 .f32) (harg6 : arg6.IsWhole) (arg7 : Memref sig .tc .vmem S1x128 .f32) (harg7 : arg7.IsWhole)
  (arg8 : Memref sig .tc .vmem S1x256x128 .f32) (harg8 : arg8.IsWhole) (arg9 : Memref sig .tc .vmem S1x256x16 .i32) (harg9 : arg9.IsWhole)
  (x0 : Vec F S1x256x3 .f32) (x1 : Vec F S1x3x8192 .f32) (x2 : Vec F S1x8192x3 .f32) (x3 : Vec F S64x3 .f32) (x4 : Vec F S128x64 .f32) (x5 : Vec F S1x128 .f32)

/-- The block of features a grid point stores: the loop's scores through the shape weights and the bias. -/
theorem out_features :
    out0_A_6 c i arg2 harg2 arg3 harg3 arg4 harg4 arg5 harg5 arg6 harg6 arg7 harg7 arg8 harg8 arg9 harg9 x0 x1 x2 x3 x4 x5
      = k0_pay1 (k0_pay12 (looped x0 x1 x2 x3).2.1 x4 x5) := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero zeros3]
  simp only [View.readAt_eq_ld, harg2.read_unread, harg3.read_unread, harg4.read_unread, harg5.read_unread, harg6.read_unread, harg7.read_unread,
    View.ld_unit_zero (S := S1x256x3) zeros3, View.ld_unit_zero (S := S1x3x8192) zeros3, View.ld_unit_zero (S := S1x8192x3) zeros3,
    View.ld_unit_zero (S := S64x3) zeros2, View.ld_unit_zero (S := S128x64) zeros2, View.ld_unit_zero (S := S1x128) zeros2, Scf.fold_eq]
  rfl

/-- The block of columns a grid point stores: those the loop found. -/
theorem out_columns :
    out0_A_7 c i arg2 harg2 arg3 harg3 arg4 harg4 arg5 harg5 arg6 harg6 arg7 harg7 arg8 harg8 arg9 harg9 x0 x1 x2 x3 x4 x5
      = k0_pay2 (looped x0 x1 x2 x3).2.2 := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero zeros3]
  simp only [View.readAt_eq_ld, harg2.read_unread, harg3.read_unread, harg4.read_unread, harg5.read_unread, harg6.read_unread, harg7.read_unread,
    View.ld_unit_zero (S := S1x256x3) zeros3, View.ld_unit_zero (S := S1x3x8192) zeros3, View.ld_unit_zero (S := S1x8192x3) zeros3,
    View.ld_unit_zero (S := S64x3) zeros2, View.ld_unit_zero (S := S128x64) zeros2, View.ld_unit_zero (S := S1x128) zeros2, Scf.fold_eq]
  rfl

end Cert.KernelIdeal.Block
-- ==== Proof.Nearest.lean ====
/-
  The nearest positions of a row of distances, picked one after another: the kernel's way (take the first least entry,
  add a large number to it, repeat) and the reference's way (the first entries of a stable sort, largest negative
  first) name the same positions.
-/
module

public import Idealize.ShloMosaic.PureOps
public import Idealize.ShloMosaic.PureOps.Ideal
public import Idealize.ShloMosaic.Lib.SortPrefix

@[expose] public section

noncomputable section

namespace Cert.Nearest

open Idealize.ShloMosaic

variable {n : ℕ} [NeZero n]

/-- A row of extended reals has a least entry. -/
theorem exists_least (d : Fin n → EReal) : (Finset.univ.filter fun i => ∀ j, d i ≤ d j).Nonempty := by
  obtain ⟨i, -, hi⟩ := Finset.exists_min_image Finset.univ d Finset.univ_nonempty
  exact ⟨i, Finset.mem_filter.mpr ⟨Finset.mem_univ _, fun j => hi j (Finset.mem_univ _)⟩⟩

/-- The first position that holds the least entry of the row. -/
def first (d : Fin n → EReal) : Fin n := (Finset.univ.filter fun i => ∀ j, d i ≤ d j).min' (exists_least d)

/-- The entry there is at most every entry. -/
theorem first_le (d : Fin n → EReal) (j : Fin n) : d (first d) ≤ d j :=
  (Finset.mem_filter.mp (Finset.min'_mem _ (exists_least d))).2 j

/-- An earlier entry is larger. -/
theorem first_lt (d : Fin n → EReal) (j : Fin n) (h : j < first d) : d (first d) < d j := by
  refine lt_of_le_of_ne (first_le d j) fun e => ?_
  have hj : j ∈ Finset.univ.filter fun i => ∀ j, d i ≤ d j :=
    Finset.mem_filter.mpr ⟨Finset.mem_univ _, fun k => e ▸ first_le d k⟩
  exact absurd (Finset.min'_le _ _ hj) (not_le.mpr h)

variable (big : EReal)

/-- The row after `t` picks: each pick adds `big` to the first least entry and `0 · big` to the others. -/
def after (d : Fin n → EReal) : ℕ → Fin n → EReal
  | 0 => d
  | t + 1 => fun j => after d t j + (if j = first (after d t) then 1 else 0) * big

/-- The position of pick `t`, counting from zero. -/
def pick (d : Fin n → EReal) (t : ℕ) : Fin n := first (after big d t)

/-- The positions picked before pick `t`. -/
def picked (d : Fin n → EReal) (t : ℕ) : Finset (Fin n) := (Finset.range t).image (pick big d)

variable {big}

/-- Fewer picks than positions leave one unpicked. -/
theorem exists_unpicked (d : Fin n → EReal) {t : ℕ} (ht : t < n) : ∃ q, q ∉ picked big d t := by
  by_contra h
  push Not at h
  have h1 : picked big d t = Finset.univ := Finset.eq_univ_of_forall h
  have h2 : (picked big d t).card ≤ t := by
    refine le_trans Finset.card_image_le ?_
    rw [Finset.card_range]
  rw [h1, Finset.card_univ, Fintype.card_fin] at h2
  omega

/-- If the row is known at step `t` and `big` exceeds every difference in it, pick `t` is new. -/
theorem pick_new (d : Fin n → EReal) (hd : ∀ i j, d i < d j + big) {t : ℕ} (ht : t < n)
    (h : ∀ j, after big d t j = if j ∈ picked big d t then d j + big else d j) : pick big d t ∉ picked big d t := by
  intro hm
  obtain ⟨q, hq⟩ := exists_unpicked (big := big) d ht
  have hle := first_le (after big d t) q
  rw [h q, if_neg hq, h (first (after big d t)), if_pos (show first (after big d t) ∈ picked big d t from hm)] at hle
  exact absurd hle (not_le.mpr (hd _ _))

/-- The row after `t` picks: `big` added exactly once at each picked position. -/
theorem after_eq (d : Fin n → EReal) (hd : ∀ i j, d i < d j + big) :
    ∀ t : ℕ, t ≤ n → ∀ j, after big d t j = if j ∈ picked big d t then d j + big else d j
  | 0, _, j => by simp [after, picked]
  | t + 1, ht, j => by
    have ih := after_eq d hd t (by omega)
    have hnew := pick_new d hd (by omega) ih
    have hp : picked big d (t + 1) = insert (pick big d t) (picked big d t) := by
      unfold picked
      rw [Finset.range_add_one, Finset.image_insert]
    have hs : after big d (t + 1) j = after big d t j + (if j = pick big d t then 1 else 0) * big := rfl
    rw [hs, hp, ih j]
    by_cases e : j = pick big d t
    · subst e
      rw [if_neg hnew, if_pos rfl, one_mul, if_pos (Finset.mem_insert_self _ _)]
    · have hi : (j ∈ insert (pick big d t) (picked big d t)) ↔ j ∈ picked big d t := by
        rw [Finset.mem_insert]
        exact ⟨fun h => h.resolve_left e, Or.inr⟩
      rw [if_neg e, zero_mul, add_zero]
      simp only [hi]

/-- Every pick is new. -/
theorem pick_not_mem (d : Fin n → EReal) (hd : ∀ i j, d i < d j + big) {t : ℕ} (ht : t < n) :
    pick big d t ∉ picked big d t := pick_new d hd ht (after_eq d hd t ht.le)

/-- Pick `t` comes before, in distance and then in position, whatever is still unpicked. -/
theorem pick_least (d : Fin n → EReal) (hd : ∀ i j, d i < d j + big) {t : ℕ} (ht : t < n) (p : Fin n)
    (hp : p ∉ picked big d t) : d (pick big d t) ≤ d p ∧ (p < pick big d t → d (pick big d t) < d p) := by
  have e1 := after_eq d hd t ht.le (pick big d t)
  rw [if_neg (pick_not_mem d hd ht)] at e1
  have e2 := after_eq d hd t ht.le p
  rw [if_neg hp] at e2
  rw [← e1, ← e2]
  exact ⟨first_le _ p, first_lt _ p⟩

/-! ## The stable sort -/

/-- The order of a stable sort by distance: by the entry, and by the position where the entries are equal. -/
def before (d : Fin n → EReal) (p q : Fin n) : Bool := decide (d p < d q) || (decide (d p = d q) && decide (p < q))

omit [NeZero n] in
/-- It is a strict total order. -/
theorem before_total (d : Fin n → EReal) : StrictTotalBefore (before d) :=
  StrictTotalBefore.of_key_then_position (fun a b : EReal => decide (a < b)) d (fun a => by simp)
    (fun a b c hab hbc => by simp only [decide_eq_true_eq] at *; exact lt_trans hab hbc)
    (fun a b => by simp only [decide_eq_true_eq]; exact lt_trichotomy a b)

omit [NeZero n] in
/-- Inserting before a list all of whose elements follow it, the tie rule is never asked. -/
theorem insertBefore_keyed (d : Fin n → EReal) (R : Fin n → Fin n → Bool) (hR : ∀ p q, R p q = decide (d p < d q)) (a : Fin n) :
    ∀ l : List (Fin n), (∀ b ∈ l, a < b) → insertBefore R a l = insertBefore (before d) a l := by
  intro l hl
  refine insertBefore_congr R (before d) a l fun b hb => ?_
  rw [hR]
  unfold before
  simp [not_lt.mpr (hl b hb).le]

omit [NeZero n] in
/-- A stable sort of increasing positions by the distance alone is the sort by distance and then position. -/
theorem stableSort_keyed (d : Fin n → EReal) (R : Fin n → Fin n → Bool) (hR : ∀ p q, R p q = decide (d p < d q)) :
    ∀ l : List (Fin n), l.Pairwise (· < ·) → stableSort R l = stableSort (before d) l := by
  intro l hl
  induction l with
  | nil => rfl
  | cons a l ih =>
    rw [List.pairwise_cons] at hl
    unfold stableSort
    rw [ih hl.2]
    exact insertBefore_keyed d R hR a _ fun b hb => hl.1 b ((perm_stableSort (before d) l).mem_iff.mp hb)

/-- Entry `t` of the stable sort by distance is pick `t`. -/
theorem sortedFrom_pick (d : Fin n → EReal) (hd : ∀ i j, d i < d j + big) (R : Fin n → Fin n → Bool)
    (hR : ∀ p q, R p q = decide (d p < d q)) (t : ℕ) (ht : t < n) : sortedFrom R ⟨t, ht⟩ = pick big d t := by
  have e : sortedFrom R = sortedFrom (before d) := by
    funext k
    unfold sortedFrom
    have h := stableSort_keyed d R hR (List.finRange n) (List.pairwise_lt_finRange n)
    rw [List.get_of_eq (show sortPositions n R = sortPositions n (before d) from h)]
    rfl
  rw [e]
  have hnm : ∀ i j : Fin n, i.val < j.val → pick big d j.val ∉ picked big d i.val := fun i j hij hm =>
    pick_not_mem d hd j.isLt (Finset.image_subset_image (Finset.range_mono hij.le) hm)
  have hf : ∀ (i : Fin n) (p : Fin n), p ∉ picked big d i.val → before d p (pick big d i.val) = false := fun i p hp => by
    obtain ⟨h1, h2⟩ := pick_least d hd i.isLt p hp
    unfold before
    rw [Bool.or_eq_false_iff, Bool.and_eq_false_iff]
    refine ⟨by simpa using h1, ?_⟩
    by_cases hlt : p < pick big d i.val
    · exact Or.inl (by simpa using (h2 hlt).ne')
    · exact Or.inr (by simpa using hlt)
  have hinj : Function.Injective fun i : Fin n => pick big d i.val := by
    intro i j hij
    by_contra hne
    rcases lt_or_gt_of_ne (fun h => hne (Fin.ext h) : i.val ≠ j.val) with h | h
    · exact pick_not_mem d hd j.isLt (Finset.mem_image.mpr ⟨i.val, Finset.mem_range.mpr h, hij⟩)
    · exact pick_not_mem d hd i.isLt (Finset.mem_image.mpr ⟨j.val, Finset.mem_range.mpr h, hij.symm⟩)
  exact (before_total d).sortedFrom_eq_of_prefix (k := n) le_rfl (fun i => pick big d i.val) hinj
    (fun i j hij => hf i _ (hnm i j hij))
    (fun i p hp => hf i p fun hm => by
      obtain ⟨s, hs, e⟩ := Finset.mem_image.mp hm
      exact hp ⟨s, lt_trans (Finset.mem_range.mp hs) i.isLt⟩ e) ⟨t, ht⟩

end Cert.Nearest

end
-- ==== Proof.Spec.lean ====
/-
  The problem for one point of a cloud, in extended reals: distances, the score of a plane for one neighbour, the best
  score over the neighbours, and the features. Also: the kernel's form of the score is the reference's.
-/
module

public import Idealize.ShloMosaic.PureOps
public import Idealize.ShloMosaic.PureOps.Ideal
public import Idealize.ShloMosaic.Lib.Pointwise.Index
public import proofs.«01_k».proof.Proof.Nearest

@[expose] public section

noncomputable section

namespace Cert.Spec

open Idealize.ShloMosaic

/-- The factor 2 of the squared distance. -/
def two : EReal := Ideal.ofBits .f32 0x40000000#32

/-- The amount a picked entry grows by: the float nearest to 1e30. -/
def big : EReal := Ideal.ofBits .f32 0x7149F2CA#32

/-- What is added to a length before dividing: the float nearest to 1e-8. -/
def eps : EReal := Ideal.ofBits .f32 0x322BCC77#32

/-- The squared distance from `q` to point `j` of `P`, in expanded form. -/
def dist {n : ℕ} (q : Fin 3 → EReal) (P : Fin n → Fin 3 → EReal) (j : Fin n) : EReal :=
  ∑ c, q c * q c + ∑ c, P j c * P j c - two * ∑ c, q c * P j c

/-- The vector from `q` to `p`. -/
def gap (q p : Fin 3 → EReal) (c : Fin 3) : EReal := p c - q c

/-- The length of a vector, with `eps` added. -/
def len (v : Fin 3 → EReal) : EReal := Ideal.sqrt (∑ c, v c * v c) + eps

/-- The component of `v` along `w`. -/
def along (v w : Fin 3 → EReal) : EReal := ∑ c, v c * w c

/-- The size of an extended real. -/
def size (x : EReal) : EReal := max x (-x)

/-- The score of the plane `w` for the vector `v`, as the kernel writes it: one division. -/
def score (v w : Fin 3 → EReal) : EReal := Ideal.div (along v w * size (along v w)) (len v)

/-- The score as the reference writes it: the component over the length, times the length, times its size. -/
def scoreRef (v w : Fin 3 → EReal) : EReal :=
  len v * Ideal.div (along v w) (len v) * size (Ideal.div (along v w) (len v))

/-- The best of the scores numbered 1 to `k - 1`. -/
def best (f : ℕ → EReal) (k : ℕ) : EReal := (Finset.Ico 1 k).sup f

theorem best_zero (f : ℕ → EReal) : best f 0 = ⊥ := by simp [best]

/-- One more score: number 0 is left out, every other joins the maximum. -/
theorem best_succ (f : ℕ → EReal) (k : ℕ) : best f (k + 1) = if 0 < k then max (best f k) (f k) else best f k := by
  unfold best
  split
  · next h =>
    rw [← Finset.insert_Ico_right_eq_Ico_add_one (by omega), Finset.sup_insert, max_comm]
  · next h => obtain rfl : k = 0 := by omega
              simp

/-- The best of scores 1 to `k` is the maximum of `k` scores numbered from zero, each one later. -/
theorem best_eq_fold (f : ℕ → EReal) (k : ℕ) :
    (Finset.univ : Finset (Fin k)).fold max ⊥ (fun i => f (i.val + 1)) = best f (k + 1) := by
  show (Finset.univ : Finset (Fin k)).sup (fun i => f (i.val + 1)) = _
  unfold best
  apply le_antisymm
  · refine Finset.sup_le fun i _ => Finset.le_sup (f := f) (b := i.val + 1) (Finset.mem_Ico.mpr ⟨by omega, by omega⟩)
  · refine Finset.sup_le fun i hi => ?_
    obtain ⟨h1, h2⟩ := Finset.mem_Ico.mp hi
    have := Finset.le_sup (s := Finset.univ) (f := fun i : Fin k => f (i.val + 1)) (Finset.mem_univ ⟨i - 1, by omega⟩)
    simpa [Nat.sub_add_cancel h1] using this

theorem size_coe (x : ℝ) : size (x : EReal) = ((max x (-x) : ℝ) : EReal) := by
  unfold size
  rw [← EReal.coe_neg]
  exact (EReal.coe_strictMono.monotone.map_max).symm

/-- The two forms of the score agree where the length is a positive real number, whatever the component is. -/
theorem score_eq (a : EReal) {l : ℝ} (hl : 0 < l) :
    (l : EReal) * Ideal.div a l * size (Ideal.div a l) = Ideal.div (a * size a) l := by
  have hne : l ≠ 0 := ne_of_gt hl
  have hi : 0 < 1 / l := by positivity
  rw [Ideal.div_coe hne, Ideal.div_coe hne]
  induction a with
  | bot =>
    rw [EReal.bot_mul_coe_of_pos hi, EReal.coe_mul_bot_of_pos hl]
    simp only [size, EReal.neg_bot, bot_le, max_eq_right, EReal.bot_mul_top]
    rw [EReal.bot_mul_coe_of_pos hi]
  | top =>
    rw [EReal.top_mul_coe_of_pos hi, EReal.coe_mul_top_of_pos hl]
    simp only [size, EReal.neg_top, bot_le, max_eq_left, EReal.top_mul_top]
    rw [EReal.top_mul_coe_of_pos hi]
  | coe x =>
    rw [← EReal.coe_mul, size_coe, size_coe, ← EReal.coe_mul, ← EReal.coe_mul, ← EReal.coe_mul, ← EReal.coe_mul]
    have h : max (x * (1 / l)) (-(x * (1 / l))) = max x (-x) * (1 / l) := by
      rw [max_mul_of_nonneg _ _ hi.le, neg_mul]
    rw [h]
    field_simp

theorem scoreRef_eq (v w : Fin 3 → EReal) {l : ℝ} (hl : 0 < l) (h : len v = l) : scoreRef v w = score v w := by
  unfold scoreRef score
  rw [h]
  exact score_eq _ hl

/-- The score of plane `w` for pick `t` among the points `P` seen from `q`. -/
def scoreAt (q : Fin 3 → EReal) (P : Fin 8192 → Fin 3 → EReal) (w : Fin 3 → EReal) (t : ℕ) : EReal :=
  score (gap q (P (Nearest.pick big (dist q P) t))) w

/-- Feature `s` of the point `q`: the best scores weighed, plus a bias, cut off below at zero. -/
def feature (q : Fin 3 → EReal) (P : Fin 8192 → Fin 3 → EReal) (W : Fin 64 → Fin 3 → EReal) (S : Fin 64 → EReal) (b : EReal) : EReal :=
  max (∑ l, best (scoreAt q P (W l)) 16 * S l + b) 0

/-- Cloud `b` of an array of clouds. -/
def cloud (x : (⟨3, ![4, 8192, 3]⟩ : Shape).Idx → EReal) (b : Fin 4) (j : Fin 8192) (c : Fin 3) : EReal := x (ix3 b j c)

/-- The features of point `i` of cloud `b`. -/
def featureAt (x : (⟨3, ![4, 8192, 3]⟩ : Shape).Idx → EReal) (W : (⟨2, ![64, 3]⟩ : Shape).Idx → EReal)
    (S : (⟨2, ![128, 64]⟩ : Shape).Idx → EReal) (bias : (⟨1, ![128]⟩ : Shape).Idx → EReal)
    (b : Fin 4) (i : Fin 8192) (s : Fin 128) : EReal :=
  feature (cloud x b i) (cloud x b) (fun l c => W (ix2 l c)) (fun l => S (ix2 s l)) (bias (ix1 s))

/-- Neighbour `k` of point `i` of cloud `b`, counting from zero. -/
def nearest (x : (⟨3, ![4, 8192, 3]⟩ : Shape).Idx → EReal) (b : Fin 4) (i : Fin 8192) (k : ℕ) : Fin 8192 :=
  Nearest.pick big (dist (cloud x b i) (cloud x b)) k

end Cert.Spec
-- ==== Proof.Loop.lean ====
/-
  The kernel's loop, read row by row: after `k` trips the distances are those after `k` picks, the columns are the picks,
  and the scores are the best ones so far; hence what a grid point stores, element by element.
-/
module

public import proofs.«01_k».proof.Proof.Block
public import proofs.«01_k».proof.Proof.Spec

@[expose] public section

noncomputable section

open Idealize.ShloMosaic

namespace Cert.KernelIdeal.Block

open Cert.KernelIdeal Cert.KernelIdeal.Gen Cert.Spec Cert.Nearest

/-- The arg-min along a row is the first position of the row's least entry. -/
theorem argMin_apply (d : FVec Ideal S256x8192 .f32) (r : Fin 256) :
    reduceIndex .argMin 1 S256 d reduces_S256x8192_S256 (ix1 r) = BitVec.ofNat 32 (first fun j => d (ix2 r j)).val := by
  have mem : ∀ i : S256x8192.Idx, reduces_S256x8192_S256.drop i = ix1 r ↔ ∃ k : Fin 8192, ix2 r k = i :=
    fun i => Shape.Reduces.fiber_r2_a1 reduces_S256x8192_S256 (ix1 r) i
  have key : ∀ T : Finset ℕ, (∀ x : ℕ, x ∈ T ↔ ∃ k : Fin 8192, k.val = x ∧ ∀ j : Fin 8192, d (ix2 r k) ≤ d (ix2 r j)) →
      T.min.getD 0 = (first fun j => d (ix2 r j)).val := by
    intro T hmem
    have hmin : T.min = ((first fun j => d (ix2 r j)).val : WithTop ℕ) := by
      apply le_antisymm
      · exact Finset.min_le ((hmem _).mpr ⟨_, rfl, fun j => first_le (fun j => d (ix2 r j)) j⟩)
      · refine Finset.le_min fun x hx => ?_
        obtain ⟨k, rfl, hk⟩ := (hmem x).mp hx
        refine WithTop.coe_le_coe.mpr (not_lt.mp fun hlt => ?_)
        exact absurd (first_lt (fun j => d (ix2 r j)) k hlt) (not_lt.mpr (hk _))
    rw [hmin]
    rfl
  refine congrArg (BitVec.ofNat 32) (key _ fun x => ?_)
  simp only [Finset.mem_image, Finset.mem_filter, Finset.mem_univ, true_and, mem]
  constructor
  · rintro ⟨i, ⟨⟨k, rfl⟩, h⟩, rfl⟩
    refine ⟨k, rfl, fun j => ?_⟩
    have := h (ix2 r j) ⟨j, rfl⟩
    simpa using this
  · rintro ⟨k, rfl, h⟩
    refine ⟨ix2 r k, ⟨⟨k, rfl⟩, ?_⟩, rfl⟩
    rintro _ ⟨j, rfl⟩
    simpa using h j

theorem pay7_apply (d : FVec Ideal S256x8192 .f32) (r : Fin 256) :
    k0_pay7 d (ix2 r 0) = BitVec.ofNat 32 (first fun j => d (ix2 r j)).val := by
  pointwise [k0_pay7]
  exact argMin_apply d r

/-- Two small numbers are the same word exactly when they are the same number. -/
theorem select_eq {α : Type} (a b : ℕ) (ha : a < 2 ^ 32) (hb : b < 2 ^ 32) (x y : α) :
    Scalar.select (IntOp.cmpi .eq (BitVec.ofNat 32 a) (BitVec.ofNat 32 b)) x y = if a = b then x else y := by
  have h : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases hab : a = b
  · subst hab; simp [Scalar.select, IntOp.cmpi]
  · have hne : (BitVec.ofNat 32 a == BitVec.ofNat 32 b) = false := beq_eq_false_iff_ne.mpr (mt h.mp hab)
    simp [Scalar.select, IntOp.cmpi, hne, hab]

/-- The one-hot row: one at the first least position, zero elsewhere. -/
theorem pay8_apply (d : FVec Ideal S256x8192 .f32) (r : Fin 256) (j : Fin 8192) :
    k0_pay8 d (ix2 r j) = if j = first (fun j => d (ix2 r j)) then 1 else 0 := by
  pointwise [k0_pay8]
  rw [pay7_apply, select_eq _ _ (by omega) (by omega)]
  simp only [Fin.ext_iff]

/-- A trip leaves the row of distances with the first least entry raised. -/
theorem pay9_apply (d : FVec Ideal S256x8192 .f32) (r : Fin 256) (j : Fin 8192) :
    k0_pay9 d (ix2 r j) = d (ix2 r j) + (if j = first (fun j => d (ix2 r j)) then 1 else 0) * big := by
  pointwise [k0_pay9]
  rw [pay8_apply]
  rfl

theorem trips_eq : k0_t1_loop.trips = 16 := by decide

theorem iv_eq (k : Fin k0_t1_loop.trips) : Scf.iv 0#32 1#32 k = BitVec.ofNat 32 k.val := by
  simp [Scf.iv]

/-- Trip `k` writes column `k` and leaves the others. -/
theorem pay10_apply (k : Fin k0_t1_loop.trips) (d : FVec Ideal S256x8192 .f32) (a : IVec S256x16 32) (r : Fin 256) (j : Fin 16) :
    k0_pay10 k d a (ix2 r j) = if j.val = k.val then BitVec.ofNat 32 (first fun j => d (ix2 r j)).val else a (ix2 r j) := by
  have hk : k.val < 16 := trips_eq ▸ k.isLt
  pointwise [k0_pay10]
  rw [pay7_apply, iv_eq, select_eq _ _ (by omega) (by omega)]

/-- A one-hot row times the points is the point it marks. -/
theorem onehot_row {n : ℕ} (f : Fin n) (P : Fin n → EReal) : ∑ x, (if x = f then 1 else 0) * P x = P f := by
  rw [Finset.sum_eq_single f]
  · simp
  · intro b _ hb; simp [hb]
  · intro h; exact absurd (Finset.mem_univ f) h

/-- Every trip but the first takes the picked point's score into the maximum. -/
theorem pay11_apply (q : Vec Ideal S1x256x3 .f32) (p : Vec Ideal S1x8192x3 .f32) (w : Vec Ideal S64x3 .f32)
    (k : Fin k0_t1_loop.trips) (d : FVec Ideal S256x8192 .f32) (a : FVec Ideal S256x64 .f32) (r : Fin 256) (l : Fin 64) :
    k0_pay11 q p w k d a (ix2 r l)
      = if 0 < k.val then
          max (a (ix2 r l)) (score (gap (fun c => q (ix3 0 r c)) (fun c => p (ix3 0 (first fun j => d (ix2 r j)) c))) fun c => w (ix2 l c))
        else a (ix2 r l) := by
  have hk : k.val < 16 := trips_eq ▸ k.isLt
  have hs : ∀ x y : EReal, Scalar.select (Scalar.cmpi .sgt (BitVec.ofNat 32 k.val) 0#32) x y = if 0 < k.val then x else y := by
    intro x y
    generalize k.val = n at hk
    interval_cases n <;> rfl
  pointwise [k0_pay11, k0_pay3]
  simp only [pay8_apply, onehot_row (first fun j => d (ix2 r j)) (fun x => p (ix3 0 x _)), iv_eq, hs]
  rfl

/-- The row of distances the loop starts from. -/
theorem pay4_apply (q : Vec Ideal S1x256x3 .f32) (pt : Vec Ideal S1x3x8192 .f32) (r : Fin 256) (j : Fin 8192) :
    k0_pay4 q pt (ix2 r j) = dist (fun c => q (ix3 0 r c)) (fun j c => pt (ix3 0 c j)) j := by
  pointwise [k0_pay4, k0_pay3]
  rfl

theorem pay5_apply (r : Fin 256) (l : Fin 64) : k0_pay5 (F := Ideal) (ix2 r l) = ⊥ := by
  pointwise [k0_pay5]
  simp [Ideal.ofBits, Ideal.ieee]

theorem pay6_apply (r : Fin 256) (k : Fin 16) : k0_pay6 (ix2 r k) = 0#32 := by
  pointwise [k0_pay6]

/-- A property that holds at the start and that every trip carries on holds at the end. -/
theorem foldl_finRange {α : Type} (n : ℕ) (g : Fin n → α → α) (s : α) (inv : ℕ → α → Prop) (h0 : inv 0 s)
    (hs : ∀ (k : Fin n) (a : α), inv k.val a → inv (k.val + 1) (g k a)) :
    inv n ((List.finRange n).foldl (fun a k => g k a) s) := by
  induction n with
  | zero => simpa using h0
  | succ n ih =>
    rw [List.finRange_succ_last, List.foldl_append, List.foldl_map]
    exact hs (Fin.last n) _ (ih (fun k a => g k.castSucc a) fun k a h => hs k.castSucc a h)

variable (q : Vec Ideal S1x256x3 .f32) (pt : Vec Ideal S1x3x8192 .f32) (p : Vec Ideal S1x8192x3 .f32) (w : Vec Ideal S64x3 .f32)

/-- What holds after `k` trips, in every row. -/
def Inv (k : ℕ) (s : Carry Ideal) : Prop :=
  ∀ r : Fin 256,
    (∀ j, s.1 (ix2 r j) = after big (dist (fun c => q (ix3 0 r c)) fun j c => p (ix3 0 j c)) k j)
    ∧ (∀ l, s.2.1 (ix2 r l) = best (scoreAt (fun c => q (ix3 0 r c)) (fun j c => p (ix3 0 j c)) fun c => w (ix2 l c)) k)
    ∧ ∀ j : Fin 16, j.val < k → s.2.2 (ix2 r j)
        = BitVec.ofNat 32 (pick big (dist (fun c => q (ix3 0 r c)) fun j c => p (ix3 0 j c)) j.val).val

theorem inv_start (hp : ∀ j c, pt (ix3 0 c j) = p (ix3 0 j c)) : Inv q p w 0 (start q pt) := by
  intro r
  refine ⟨fun j => ?_, fun l => ?_, fun j h => absurd h (Nat.not_lt_zero _)⟩
  · show k0_pay4 q pt (ix2 r j) = _
    rw [pay4_apply]
    simp only [hp]
    rfl
  · rw [best_zero]
    exact pay5_apply r l

theorem inv_trip (k : Fin k0_t1_loop.trips) (s : Carry Ideal) (h : Inv q p w k.val s) : Inv q p w (k.val + 1) (trip q p w k s) := by
  intro r
  obtain ⟨hd, hb, hi⟩ := h r
  have hrow : (fun j => s.1 (ix2 r j)) = after big (dist (fun c => q (ix3 0 r c)) fun j c => p (ix3 0 j c)) k.val := funext hd
  refine ⟨fun j => ?_, fun l => ?_, fun j hj => ?_⟩
  · show k0_pay9 s.1 (ix2 r j) = _
    rw [pay9_apply, hrow, hd j]
    rfl
  · show k0_pay11 q p w k s.1 s.2.1 (ix2 r l) = _
    rw [pay11_apply, hrow, hb l, best_succ]
    rfl
  · show k0_pay10 k s.1 s.2.2 (ix2 r j) = _
    rw [pay10_apply, hrow]
    split
    · next e => rw [e]; rfl
    · next e => exact hi j (by omega)

/-- What holds after the loop. -/
theorem inv_looped (hp : ∀ j c, pt (ix3 0 c j) = p (ix3 0 j c)) : Inv q p w 16 (looped q pt p w) := by
  have h := foldl_finRange k0_t1_loop.trips (fun k s => trip q p w k s) (start q pt) (Inv q p w) (inv_start q pt p w hp)
    (inv_trip q p w)
  exact (congrArg (fun n => Inv q p w n (looped q pt p w)) trips_eq).mp h

/-- The features a grid point stores. -/
theorem features_apply (S : Vec Ideal S128x64 .f32) (b : Vec Ideal S1x128 .f32) (hp : ∀ j c, pt (ix3 0 c j) = p (ix3 0 j c))
    (r : Fin 256) (s : Fin 128) :
    k0_pay1 (k0_pay12 (looped q pt p w).2.1 S b) (ix3 0 r s)
      = feature (fun c => q (ix3 0 r c)) (fun j c => p (ix3 0 j c)) (fun l c => w (ix2 l c)) (fun l => S (ix2 s l)) (b (ix2 0 s)) := by
  pointwise [k0_pay1, k0_pay12]
  simp only [(inv_looped q pt p w hp r).2.1]
  rfl

/-- The columns a grid point stores. -/
theorem columns_apply (hp : ∀ j c, pt (ix3 0 c j) = p (ix3 0 j c)) (r : Fin 256) (k : Fin 16) :
    k0_pay2 (looped q pt p w).2.2 (ix3 0 r k)
      = BitVec.ofNat 32 (pick big (dist (fun c => q (ix3 0 r c)) fun j c => p (ix3 0 j c)) k.val).val := by
  pointwise [k0_pay2]
  exact (inv_looped q pt p w hp r).2.2 k k.isLt

end Cert.KernelIdeal.Block
-- ==== Proof.Arrays.lean ====
/-
  The kernel's arrays after its run: every block a grid point writes, put together, is one function of the arguments,
  and the run ends with these arrays (the features transposed) and with the arguments unchanged.
-/
module

public import proofs.«01_k».proof.Proof.Loop
public import Idealize.ShloMosaic.Lib.StableHlo.Run

@[expose] public section

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block Cert.Spec Cert.Nearest

variable (m : (ℓ : Loc nD τ sig) → Buf (Elt Ideal) ℓ) (ρ : Dev nD → PrngReg)

/-- The clouds, as launched. -/
abbrev xyz (c : Dev nD) : S4x8192x3.Idx → EReal := m ((c : Thread nD τ).loc main_arg0)
/-- The plane weights, as launched. -/
abbrev planes (c : Dev nD) : S64x3.Idx → EReal := m ((c : Thread nD τ).loc main_arg1)
/-- The shape weights, as launched. -/
abbrev shapes (c : Dev nD) : S128x64.Idx → EReal := m ((c : Thread nD τ).loc main_arg2)
/-- The bias, as launched. -/
abbrev bias (c : Dev nD) : S128.Idx → EReal := m ((c : Thread nD τ).loc main_arg3)

/-- The transposed clouds the kernel is given. -/
theorem V_transposed (c : Dev nD) : V m c main_v0 = transpose S4x3x8192 [0, 2, 1] (xyz m c) transposes_S4x8192x3_S4x3x8192_0_2_1 := by
  show StableHlo.after hostOps0 _ (Proc.devRef .tc main_v0) = _
  after_results

/-- The bias row the kernel is given. -/
theorem V_bias (c : Dev nD) : V m c main_v1 = shapeCast S1x128 (bias m c) shapeCasts_S128_S1x128 := by
  show StableHlo.after hostOps0 _ (Proc.devRef .tc main_v1) = _
  after_results
  rfl

/-- Where each window's block lies at grid point `t`: batch `t / 32`, row block `t % 32`. -/
theorem index0 : ∀ t : Fin cfg0.N, win0_0.index t 0 = t.val / 32 ∧ win0_0.index t 1 = t.val % 32 ∧ win0_0.index t 2 = 0 :=
  (by decide +kernel : ∀ t : Fin grid0.N, win0_0.index t 0 = t.val / 32 ∧ win0_0.index t 1 = t.val % 32 ∧ win0_0.index t 2 = 0)
theorem index1 : ∀ t : Fin cfg0.N, win0_1.index t 0 = t.val / 32 ∧ win0_1.index t 1 = 0 ∧ win0_1.index t 2 = 0 :=
  (by decide +kernel : ∀ t : Fin grid0.N, win0_1.index t 0 = t.val / 32 ∧ win0_1.index t 1 = 0 ∧ win0_1.index t 2 = 0)
theorem index2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = t.val / 32 ∧ win0_6.index t 1 = t.val % 32 ∧ win0_6.index t 2 = 0 :=
  (by decide +kernel : ∀ t : Fin grid0.N, win0_6.index t 0 = t.val / 32 ∧ win0_6.index t 1 = t.val % 32 ∧ win0_6.index t 2 = 0)
theorem index7 : ∀ t : Fin cfg0.N, win0_7.index t 0 = t.val / 32 ∧ win0_7.index t 1 = t.val % 32 ∧ win0_7.index t 2 = 0 :=
  (by decide +kernel : ∀ t : Fin grid0.N, win0_7.index t 0 = t.val / 32 ∧ win0_7.index t 1 = t.val % 32 ∧ win0_7.index t 2 = 0)

theorem lt_points (t : Fin cfg0.N) : t.val < 128 := lt_of_lt_of_eq t.isLt N_0

/-- The cloud grid point `t` works on. -/
def batch (t : Fin cfg0.N) : Fin 4 := ⟨t.val / 32, by have := lt_points t; omega⟩
/-- The point of the cloud that row `r` of grid point `t` works on. -/
def row (t : Fin cfg0.N) (r : Fin 256) : Fin 8192 := ⟨t.val % 32 * 256 + r.val, by have := r.isLt; omega⟩

/-- The row block of queries at grid point `t`. -/
theorem queries_apply (c : Dev nD) (t : Fin cfg0.N) (r : Fin 256) (k : Fin 3) :
    (iblk m c 0 t : Vec Ideal S1x256x3 .f32) (ix3 0 r k) = cloud (xyz m c) (batch t) (row t r) k := by
  obtain ⟨h0, h1, h2⟩ := index0 t
  unfold iblk
  rw [View.read_apply]
  show V m c main_arg0 _ = _
  rw [V_main_arg0]
  show xyz m c _ = xyz m c _
  congr 1
  funext a
  apply Fin.ext
  match a with
  | ⟨0, _⟩ => show win0_0.index t 0 * 1 + 1 * 0 = t.val / 32; omega
  | ⟨1, _⟩ => show win0_0.index t 1 * 256 + 1 * r.val = t.val % 32 * 256 + r.val; omega
  | ⟨2, _⟩ => show win0_0.index t 2 * 3 + 1 * k.val = k.val; omega

/-- The transposed cloud at grid point `t`. -/
theorem transposed_apply (c : Dev nD) (t : Fin cfg0.N) (k : Fin 3) (j : Fin 8192) :
    (iblk m c 1 t : Vec Ideal S1x3x8192 .f32) (ix3 0 k j) = cloud (xyz m c) (batch t) j k := by
  obtain ⟨h0, h1, h2⟩ := index1 t
  unfold iblk
  rw [View.read_apply]
  show V m c main_v0 _ = _
  rw [V_transposed]
  have e : (((cfg0.win 1).blk t).view.emb (ix3 0 k j) : S4x3x8192.Idx) = ix3 (batch t) k j := by
    funext a
    apply Fin.ext
    match a with
    | ⟨0, _⟩ => show win0_1.index t 0 * 1 + 1 * 0 = t.val / 32; omega
    | ⟨1, _⟩ => show win0_1.index t 1 * 3 + 1 * k.val = k.val; omega
    | ⟨2, _⟩ => show win0_1.index t 2 * 8192 + 1 * j.val = j.val; omega
  show transpose S4x3x8192 [0, 2, 1] (xyz m c) transposes_S4x8192x3_S4x3x8192_0_2_1 (((cfg0.win 1).blk t).view.emb (ix3 0 k j)) = _
  rw [e]
  pointwise
  rfl

/-- The cloud at grid point `t`. -/
theorem points_apply (c : Dev nD) (t : Fin cfg0.N) (j : Fin 8192) (k : Fin 3) :
    (iblk m c 2 t : Vec Ideal S1x8192x3 .f32) (ix3 0 j k) = cloud (xyz m c) (batch t) j k := by
  obtain ⟨h0, h1, h2⟩ := index2 t
  unfold iblk
  rw [View.read_apply]
  show V m c main_arg0 _ = _
  rw [V_main_arg0]
  show xyz m c _ = xyz m c _
  congr 1
  funext a
  apply Fin.ext
  match a with
  | ⟨0, _⟩ => show win0_2.index t 0 * 1 + 1 * 0 = t.val / 32; omega
  | ⟨1, _⟩ => show win0_2.index t 1 * 8192 + 1 * j.val = j.val; omega
  | ⟨2, _⟩ => show win0_2.index t 2 * 3 + 1 * k.val = k.val; omega

/-- The plane weights at every grid point. -/
theorem planes_apply (c : Dev nD) (t : Fin cfg0.N) (l : Fin 64) (k : Fin 3) :
    (iblk m c 3 t : Vec Ideal S64x3 .f32) (ix2 l k) = planes m c (ix2 l k) := by
  obtain ⟨h0, h1⟩ := index3 t
  unfold iblk
  rw [View.read_apply]
  show V m c main_arg1 _ = _
  rw [V_main_arg1]
  show planes m c _ = planes m c _
  congr 1
  funext a
  apply Fin.ext
  match a with
  | ⟨0, _⟩ => show win0_3.index t 0 * 64 + 1 * l.val = l.val; omega
  | ⟨1, _⟩ => show win0_3.index t 1 * 3 + 1 * k.val = k.val; omega

/-- The shape weights at every grid point. -/
theorem shapes_apply (c : Dev nD) (t : Fin cfg0.N) (s : Fin 128) (l : Fin 64) :
    (iblk m c 4 t : Vec Ideal S128x64 .f32) (ix2 s l) = shapes m c (ix2 s l) := by
  obtain ⟨h0, h1⟩ := index4 t
  unfold iblk
  rw [View.read_apply]
  show V m c main_arg2 _ = _
  rw [V_main_arg2]
  show shapes m c _ = shapes m c _
  congr 1
  funext a
  apply Fin.ext
  match a with
  | ⟨0, _⟩ => show win0_4.index t 0 * 128 + 1 * s.val = s.val; omega
  | ⟨1, _⟩ => show win0_4.index t 1 * 64 + 1 * l.val = l.val; omega

/-- The bias at every grid point. -/
theorem bias_apply (c : Dev nD) (t : Fin cfg0.N) (s : Fin 128) :
    (iblk m c 5 t : Vec Ideal S1x128 .f32) (ix2 0 s) = bias m c (ix1 s) := by
  obtain ⟨h0, h1⟩ := index5 t
  unfold iblk
  rw [View.read_apply]
  show V m c main_v1 _ = _
  rw [V_bias]
  have e : (((cfg0.win 5).blk t).view.emb (ix2 0 s) : S1x128.Idx) = ix2 0 s := by
    funext a
    apply Fin.ext
    match a with
    | ⟨0, _⟩ => show win0_5.index t 0 * 1 + 1 * 0 = 0; omega
    | ⟨1, _⟩ => show win0_5.index t 1 * 128 + 1 * s.val = s.val; omega
  show shapeCast S1x128 (bias m c) shapeCasts_S128_S1x128 (((cfg0.win 5).blk t).view.emb (ix2 0 s)) = _
  rw [e]
  pointwise

/-- The whole array of features. -/
def features (c : Dev nD) : S4x8192x128.Idx → EReal :=
  fun i => featureAt (xyz m c) (planes m c) (shapes m c) (bias m c) (i 0) (i 1) (i 2)

/-- The whole array of columns. -/
def columns (c : Dev nD) : S4x8192x16.Idx → BitVec 32 :=
  fun i => BitVec.ofNat 32 (nearest (xyz m c) (i 0) (i 1) (i 2).val).val

/-- An index into a block of one cloud is a row and a column. -/
theorem block_index {n : ℕ} (j : (⟨3, ![1, 256, n]⟩ : Shape).Idx) : ∃ (r : Fin 256) (s : Fin n), j = ix3 0 r s := by
  refine ⟨j 1, j 2, (eq_ix3 j).trans ?_⟩
  have h : ∀ a : Fin 1, a = 0 := fun a => Subsingleton.elim _ _
  exact congrArg (fun a : Fin 1 => ix3 a (j 1) (j 2)) (h (j 0))

/-- Grid point `t` stores the features of its rows. -/
theorem block_features (c : Dev nD) (t : Fin cfg0.N) (r : Fin 256) (s : Fin 128) :
    k0_pay1 (k0_pay12 (looped (iblk m c 0 t : Vec Ideal S1x256x3 .f32) (iblk m c 1 t : Vec Ideal S1x3x8192 .f32) (iblk m c 2 t : Vec Ideal S1x8192x3 .f32)
      (iblk m c 3 t : Vec Ideal S64x3 .f32)).2.1
      (iblk m c 4 t : Vec Ideal S128x64 .f32) (iblk m c 5 t : Vec Ideal S1x128 .f32)) (ix3 0 r s) = features m c (ix3 (batch t) (row t r) s) := by
  rw [features_apply _ _ _ _ _ _ (fun j k => (transposed_apply m c t k j).trans (points_apply m c t j k).symm)]
  simp only [queries_apply, points_apply, planes_apply, shapes_apply, bias_apply]
  rfl

/-- Grid point `t` writes its block of the array of features. -/
theorem flushed_features (c : Dev nD) (t : Fin cfg0.N) (hf : (cfg0.win 6).flush t = true) :
    (dats m 0 c).flushed 6 t = ((cfg0.win 6).blk t).view.read (Elt Ideal) (features m c) := by
  obtain ⟨h0, h1, h2⟩ := index6 t
  show (cfg0.win 6).cut (grid0.coords t) ((dats m 0 c).after 6 t) = _
  rw [after0_6]
  simp only [outsAt0]
  rw [out_features]
  funext j
  obtain ⟨r, s, rfl⟩ : ∃ (r : Fin 256) (s : Fin 128), j = (ix3 0 r s : S1x256x128.Idx) := block_index (j : S1x256x128.Idx)
  rw [View.read_apply]
  have e : (((cfg0.win 6).blk t).view.emb (ix3 0 r s : S1x256x128.Idx) : S4x8192x128.Idx) = ix3 (batch t) (row t r) s := by
    funext a
    apply Fin.ext
    match a with
    | ⟨0, _⟩ => show win0_6.index t 0 * 1 + 1 * 0 = t.val / 32; omega
    | ⟨1, _⟩ => show win0_6.index t 1 * 256 + 1 * r.val = t.val % 32 * 256 + r.val; omega
    | ⟨2, _⟩ => show win0_6.index t 2 * 128 + 1 * s.val = s.val; omega
  exact (block_features m c t r s).trans (congrArg (features m c) e).symm

/-- Grid point `t` stores the columns of its rows. -/
theorem block_columns (c : Dev nD) (t : Fin cfg0.N) (r : Fin 256) (s : Fin 16) :
    k0_pay2 (looped (iblk m c 0 t : Vec Ideal S1x256x3 .f32) (iblk m c 1 t : Vec Ideal S1x3x8192 .f32) (iblk m c 2 t : Vec Ideal S1x8192x3 .f32)
      (iblk m c 3 t : Vec Ideal S64x3 .f32)).2.2 (ix3 0 r s) = columns m c (ix3 (batch t) (row t r) s) := by
  rw [columns_apply _ _ _ _ (fun j k => (transposed_apply m c t k j).trans (points_apply m c t j k).symm)]
  simp only [queries_apply, points_apply]
  rfl

/-- Grid point `t` writes its block of the array of columns. -/
theorem flushed_columns (c : Dev nD) (t : Fin cfg0.N) (hf : (cfg0.win 7).flush t = true) :
    (dats m 0 c).flushed 7 t = ((cfg0.win 7).blk t).view.read (Elt Ideal) (columns m c) := by
  obtain ⟨h0, h1, h2⟩ := index7 t
  show (cfg0.win 7).cut (grid0.coords t) ((dats m 0 c).after 7 t) = _
  rw [after0_7]
  simp only [outsAt0]
  rw [out_columns]
  funext j
  obtain ⟨r, s, rfl⟩ : ∃ (r : Fin 256) (s : Fin 16), j = (ix3 0 r s : S1x256x16.Idx) := block_index (j : S1x256x16.Idx)
  rw [View.read_apply]
  have e : (((cfg0.win 7).blk t).view.emb (ix3 0 r s : S1x256x16.Idx) : S4x8192x16.Idx) = ix3 (batch t) (row t r) s := by
    funext a
    apply Fin.ext
    match a with
    | ⟨0, _⟩ => show win0_7.index t 0 * 1 + 1 * 0 = t.val / 32; omega
    | ⟨1, _⟩ => show win0_7.index t 1 * 256 + 1 * r.val = t.val % 32 * 256 + r.val; omega
    | ⟨2, _⟩ => show win0_7.index t 2 * 16 + 1 * s.val = s.val; omega
  exact (block_columns m c t r s).trans (congrArg (columns m c) e).symm

/-- The grid point that writes point `i` of cloud `b`. -/
def pointOf (b i : ℕ) (hb : b < 4) (hi : i < 8192) : Fin cfg0.N := ⟨b * 32 + i / 256, by rw [show cfg0.N = 128 from N_0]; omega⟩

/-- The array of features after the run. -/
theorem final_features (c : Dev nD) : (dats m 0 c).arrAt 6 cfg0.N = features m c :=
  (dats m 0 c).arrAt_eq_of_cover 6 (features m c) (flushed_features m c) fun i => by
    have hb : (i 0 : Nat) < 4 := (i 0).isLt
    have hi : (i 1 : Nat) < 8192 := (i 1).isLt
    have hs : (i 2 : Nat) < 128 := (i 2).isLt
    obtain ⟨h0, h1, h2⟩ := index6 (pointOf (i 0) (i 1) hb hi)
    have ht : (pointOf (i 0) (i 1) hb hi).val = (i 0 : Nat) * 32 + (i 1 : Nat) / 256 := rfl
    refine ⟨pointOf (i 0) (i 1) hb hi, flush0_6 _, ?_⟩
    show i ∈ ((View.whole main_v2_0).slice (win0_6.rect (pointOf (i 0) (i 1) hb hi))).set
    rw [View.set_slice_whole, Rect.mem_set_unit]
    intro a
    match a with
    | ⟨0, _⟩ => show win0_6.index _ 0 * 1 ≤ (i 0 : Nat) ∧ (i 0 : Nat) < win0_6.index _ 0 * 1 + 1; omega
    | ⟨1, _⟩ => show win0_6.index _ 1 * 256 ≤ (i 1 : Nat) ∧ (i 1 : Nat) < win0_6.index _ 1 * 256 + 256; omega
    | ⟨2, _⟩ => show win0_6.index _ 2 * 128 ≤ (i 2 : Nat) ∧ (i 2 : Nat) < win0_6.index _ 2 * 128 + 128; omega

/-- The array of columns after the run. -/
theorem final_columns (c : Dev nD) : (dats m 0 c).arrAt 7 cfg0.N = columns m c :=
  (dats m 0 c).arrAt_eq_of_cover 7 (columns m c) (flushed_columns m c) fun i => by
    have hb : (i 0 : Nat) < 4 := (i 0).isLt
    have hi : (i 1 : Nat) < 8192 := (i 1).isLt
    have hs : (i 2 : Nat) < 16 := (i 2).isLt
    obtain ⟨h0, h1, h2⟩ := index7 (pointOf (i 0) (i 1) hb hi)
    have ht : (pointOf (i 0) (i 1) hb hi).val = (i 0 : Nat) * 32 + (i 1 : Nat) / 256 := rfl
    refine ⟨pointOf (i 0) (i 1) hb hi, flush0_7 _, ?_⟩
    show i ∈ ((View.whole main_v2_1).slice (win0_7.rect (pointOf (i 0) (i 1) hb hi))).set
    rw [View.set_slice_whole, Rect.mem_set_unit]
    intro a
    match a with
    | ⟨0, _⟩ => show win0_7.index _ 0 * 1 ≤ (i 0 : Nat) ∧ (i 0 : Nat) < win0_7.index _ 0 * 1 + 1; omega
    | ⟨1, _⟩ => show win0_7.index _ 1 * 256 ≤ (i 1 : Nat) ∧ (i 1 : Nat) < win0_7.index _ 1 * 256 + 256; omega
    | ⟨2, _⟩ => show win0_7.index _ 2 * 16 ≤ (i 2 : Nat) ∧ (i 2 : Nat) < win0_7.index _ 2 * 16 + 16; omega

/-- After the host's last operation the first result is the array of features, transposed. -/
theorem transposed_features (c : Dev nD) :
    Pipeline.afterTail₀ cfgs (dats m) 0 (V0 m) [hostOps1] c main_v3
      = transpose S4x128x8192 [0, 2, 1] (features m c) transposes_S4x8192x128_S4x128x8192_0_2_1 := by
  have h := (dats m 0 c).withArrays_arrAt sharedIn0 (V0 m c) (A_eq m c) 6
  unfold Pipeline.afterTail₀
  show StableHlo.after hostOps1 _ (Proc.devRef .tc main_v3) = _
  after_results
  refine congrArg (fun x => transpose S4x128x8192 [0, 2, 1] x transposes_S4x8192x128_S4x128x8192_0_2_1) ?_
  exact h.trans (final_features m c)

/-- The run: the three results and the arguments. -/
theorem run : θ_run defs (onTc (τ := τ) (main (F := Ideal))) ⟨m, fun _ => 0, ρ⟩ fun r => ∀ c : Dev nD,
      r.2.mem ((c : Thread nD τ).loc main_v3) = transpose S4x128x8192 [0, 2, 1] (features m c) transposes_S4x8192x128_S4x128x8192_0_2_1
      ∧ r.2.mem ((c : Thread nD τ).loc main_v2_1) = columns m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_main (F := Ideal) m ρ)
  refine ⟨?_, ((h c).1 7).trans (final_columns m c), ?_, ?_, ?_, ?_⟩
  · exact ((h c).2 main_v3 (Pipeline.mem_restRefs_of main_v3 (by decide) (by decide))).trans (transposed_features m c)
  · exact ((h c).1 2).trans (((dats m 0 c).arrAt_in 2 rfl _).trans ((A_eq m c 2).trans (V_main_arg0 m c)))
  · exact ((h c).1 3).trans (((dats m 0 c).arrAt_in 3 rfl _).trans ((A_eq m c 3).trans (V_main_arg1 m c)))
  · exact ((h c).1 4).trans (((dats m 0 c).arrAt_in 4 rfl _).trans ((A_eq m c 4).trans (V_main_arg2 m c)))
  · exact ((h c).2 main_arg3 (Pipeline.mem_restRefs_of main_arg3 (by decide) (by decide))).trans (W_main_arg3 m (dats m) c)

/-- The transposed features, index by index. -/
theorem transposed_eq (c : Dev nD) :
    transpose S4x128x8192 [0, 2, 1] (features m c) transposes_S4x8192x128_S4x128x8192_0_2_1
      = fun j => featureAt (xyz m c) (planes m c) (shapes m c) (bias m c) (j 0) (j 2) (j 1) := by
  have h : ∀ (a : Fin 4) (s : Fin 128) (i : Fin 8192),
      transpose S4x128x8192 [0, 2, 1] (features m c) transposes_S4x8192x128_S4x128x8192_0_2_1 (ix3 a s i)
        = featureAt (xyz m c) (planes m c) (shapes m c) (bias m c) a i s := fun a s i => by
    pointwise
    rfl
  exact funext fun j => (congrArg _ (eq_ix3 j)).trans (h (j 0) (j 1) (j 2))

end Cert.KernelIdeal.Arrays
-- ==== Proof.Reference.lean ====
/-
  The reference's steps as arrays, each a function of the one before: distances, neighbours, gathered differences, lengths,
  plane scores, features; and its two computed results in terms of them.
-/
module

public import proofs.«01_k».proof.Proof.Gen.ReferenceIdeal.Run
public import Idealize.ShloMosaic.Lib.Pointwise
public import Idealize.ShloMosaic.Lib.ReduceAll

@[expose] public section

noncomputable section

open Idealize.ShloMosaic Idealize.ShloMosaic.TcCoe Idealize.SL.Sem

namespace Cert.ReferenceIdeal.Steps

open Cert.ReferenceIdeal Cert.ReferenceIdeal.Gen

variable (x : FVec Ideal S4x8192x3 .f32) (W : FVec Ideal S64x3 .f32) (S : FVec Ideal S128x64 .f32) (b : FVec Ideal S128 .f32)

/-- The squared lengths of the points. -/
def squares : FVec Ideal S4x8192 .f32 :=
  Host.reduceAdd (mulf x x) (constant S_ .f32 0x00000000#32) reducesTo_S4x8192x3_S4x8192_d2 h_S_

/-- The squared distances between the points of each cloud. -/
def distances : FVec Ideal S4x8192x8192 .f32 :=
  subf
    (addf
      (broadcastInDim S4x8192x8192 ![0, 1, 2] bcast_S4x8192x1_S4x8192x8192_0_1_2
        (broadcastInDim S4x8192x1 ![0, 1] bcast_S4x8192_S4x8192x1_0_1 (squares x)))
      (broadcastInDim S4x8192x8192 ![0, 1, 2] bcast_S4x1x8192_S4x8192x8192_0_1_2
        (broadcastInDim S4x1x8192 ![0, 2] bcast_S4x8192_S4x1x8192_0_2 (squares x))))
    (mulf (broadcastInDim S4x8192x8192 ![] bcast_S_S4x8192x8192 (constant S_ .f32 0x40000000#32))
      (Host.dotGeneral dot_S4x8192x3_S4x8192x3_S4x8192x8192_2_2_1_1_0_0 none x x))

/-- The positions of the 16 nearest points of each point. -/
def neighbours : IVec S4x8192x16 32 :=
  (Host.topK S4x8192x16 2 (FloatOps.cmpfTotal .gt) (Host.negf (distances x)) sliceFits_S4x8192x8192_S4x8192x16).2

/-- The positions but the first, along a leading unit axis. -/
def others (n : IVec S4x8192x16 32) : IVec S4x1x8192x15 32 :=
  broadcastInDim S4x1x8192x15 ![0, 2, 3] bcast_S4x8192x15_S4x1x8192x15_0_2_3
    (extractStridedSlice S4x8192x15 ![0, 0, 1] n slices_S4x8192x16_S4x8192x15_0_0_1)

/-- The positions as the gather takes them: a negative one counts from the end. -/
def starts (n : IVec S4x8192x16 32) : IVec S4x8192x15x1 32 :=
  shapeCast _
    (select (cmpi .slt (others n) (broadcastInDim S4x1x8192x15 ![] bcast_S_S4x1x8192x15 (constantI S_ 32 0#32)))
      (addi (others n) (broadcastInDim S4x1x8192x15 ![] bcast_S_S4x1x8192x15 (constantI S_ 32 8192#32)))
      (others n)) shapeCasts_S4x1x8192x15_S4x8192x15x1

/-- Whether each position lies inside the cloud, element by element. -/
def insideEach (n : IVec S4x8192x16 32) : IVec S4x8192x15x1 1 :=
  andi (cmpi .sge (starts n) (broadcastInDim S4x8192x15x1 ![] bcast_S_S4x8192x15x1 (constantI S_ 32 0#32)))
    (cmpi .sle (starts n)
      (broadcastInDim S4x8192x15x1 ![0, 1, 2, 3] bcast_S1x1x1x1_S4x8192x15x1_0_1_2_3
        (broadcastInDim S1x1x1x1 ![3] bcast_S1_S1x1x1x1_3 (constantI S1 32 8191#32))))

/-- Whether each position lies inside the cloud. -/
def inside (n : IVec S4x8192x16 32) : IVec S4x8192x15 1 :=
  Host.reduce IntOp.andi (insideEach n) (constantI S_ 1 1#1) reducesTo_S4x8192x15x1_S4x8192x15_d3 h_S_

/-- The points, coordinates first. -/
def flipped : FVec Ideal S4x3x8192 .f32 := transpose S4x3x8192 [0, 2, 1] x transposes_S4x8192x3_S4x3x8192_0_2_1

/-- The points at the positions. -/
def gathered (n : IVec S4x8192x16 32) : FVec Ideal S4x3x8192x15 .f32 :=
  Host.gather gather_S4x3x8192_S4x8192x15x1_S4x3x8192x15_1_2_0_0_2_3_131
    (shapeCast _ (broadcastInDim S4x3x1x8192 ![0, 1, 3] bcast_S4x3x8192_S4x3x1x8192_0_1_3 (flipped x)) shapeCasts_S4x3x1x8192_S4x3x8192)
    (starts n)

/-- The vectors from each point to the points at its positions. -/
def gaps (n : IVec S4x8192x16 32) : FVec Ideal S4x3x8192x15 .f32 :=
  subf
    (select (broadcastInDim S4x3x8192x15 ![0, 2, 3] bcast_S4x8192x15_S4x3x8192x15_0_2_3 (inside n)) (gathered x n)
      (broadcastInDim S4x3x8192x15 ![] bcast_S_S4x3x8192x15 (constant S_ .f32 0x7FC00000#32)))
    (broadcastInDim S4x3x8192x15 ![0, 1, 2, 3] bcast_S4x3x8192x1_S4x3x8192x15_0_1_2_3
      (broadcastInDim S4x3x8192x1 ![0, 1, 2] bcast_S4x3x8192_S4x3x8192x1_0_1_2 (flipped x)))

/-- Their lengths. -/
def lengths (g : FVec Ideal S4x3x8192x15 .f32) : FVec Ideal S4x1x8192x15 .f32 :=
  addf
    (Host.sqrt (broadcastInDim S4x1x8192x15 ![0, 2, 3] bcast_S4x8192x15_S4x1x8192x15_0_2_3
      (Host.reduceAdd (mulf g g) (constant S_ .f32 0x00000000#32) reducesTo_S4x3x8192x15_S4x8192x15_d1 h_S_)))
    (broadcastInDim S4x1x8192x15 ![] bcast_S_S4x1x8192x15 (constant S_ .f32 0x322BCC77#32))

/-- The lengths, one copy for each plane. -/
def lengthsWide (g : FVec Ideal S4x3x8192x15 .f32) : FVec Ideal S4x64x8192x15 .f32 :=
  broadcastInDim S4x64x8192x15 ![0, 1, 2, 3] bcast_S4x1x8192x15_S4x64x8192x15_0_1_2_3 (lengths g)

/-- The plane components over the lengths. -/
def ratios (g : FVec Ideal S4x3x8192x15 .f32) : FVec Ideal S4x64x8192x15 .f32 :=
  Host.divf
    (transpose S4x64x8192x15 [0, 3, 1, 2] (Host.dotGeneral dot_S4x3x8192x15_S64x3_S4x8192x15x64_1_1_023_0_n_n none g W)
      transposes_S4x8192x15x64_S4x64x8192x15_0_3_1_2)
    (lengthsWide g)

/-- The scores of the planes. -/
def scores (g : FVec Ideal S4x3x8192x15 .f32) : FVec Ideal S4x64x8192x15 .f32 :=
  mulf (mulf (lengthsWide g) (ratios W g)) (Host.absf (ratios W g))

/-- The best score of each plane. -/
def bests (g : FVec Ideal S4x3x8192x15 .f32) : FVec Ideal S4x64x8192 .f32 :=
  Host.reduce FloatOps.maximumf (scores W g) (constant S_ .f32 0xFF800000#32) reducesTo_S4x64x8192x15_S4x64x8192_d3 h_S_

/-- The features, from the best scores. -/
def out (p : FVec Ideal S4x64x8192 .f32) : FVec Ideal S4x128x8192 .f32 :=
  maximumf
    (addf
      (transpose S4x128x8192 [0, 2, 1] (Host.dotGeneral dot_S4x64x8192_S128x64_S4x8192x128_1_1_02_0_n_n none p S)
        transposes_S4x8192x128_S4x128x8192_0_2_1)
      (broadcastInDim S4x128x8192 ![0, 1, 2] bcast_S1x128x1_S4x128x8192_0_1_2 (broadcastInDim S1x128x1 ![1] bcast_S128_S1x128x1_1 b)))
    (broadcastInDim S4x128x8192 ![] bcast_S_S4x128x8192 (constant S_ .f32 0x00000000#32))

variable (m : (ℓ : Loc nD τ sig) → Buf (Elt Ideal) ℓ) (ρ : Dev nD → PrngReg)

/-- The first result, step by step. -/
theorem result_features (c : Dev nD) :
    Value.res_main_v40 (F := Ideal) m c
      = out (m ((c.tc : Thread nD τ).loc main_arg2)) (m ((c.tc : Thread nD τ).loc main_arg3))
          (bests (m ((c.tc : Thread nD τ).loc main_arg1))
            (gaps (m ((c.tc : Thread nD τ).loc main_arg0)) (neighbours (m ((c.tc : Thread nD τ).loc main_arg0))))) := rfl

/-- The run: the three results and the arguments. -/
theorem run : θ_run defs (onTc (τ := τ) (main (F := Ideal))) ⟨m, fun _ => 0, ρ⟩ fun r => ∀ c : Dev nD,
      r.2.mem ((c.tc : Thread nD τ).loc main_v40)
        = out (m ((c.tc : Thread nD τ).loc main_arg2)) (m ((c.tc : Thread nD τ).loc main_arg3))
          (bests (m ((c.tc : Thread nD τ).loc main_arg1))
            (gaps (m ((c.tc : Thread nD τ).loc main_arg0)) (neighbours (m ((c.tc : Thread nD τ).loc main_arg0)))))
      ∧ r.2.mem ((c.tc : Thread nD τ).loc main_arg0) = m ((c.tc : Thread nD τ).loc main_arg0)
      ∧ r.2.mem ((c.tc : Thread nD τ).loc main_indices) = neighbours (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    have h' := h c
    rw [result_features] at h'
    exact h') (Value.run (F := Ideal) m ρ)

end Cert.ReferenceIdeal.Steps
-- ==== Proof.Gather.lean ====
/-
  The reference's gather, read at one index: along the last axis of each cloud, at one position per entry.
-/
module

public import proofs.«01_k».proof.ReferenceIdeal
public import proofs.«01_k».proof.Proof.Gen.ReferenceIdeal
public import Idealize.ShloMosaic.Lib.Pointwise

@[expose] public section

noncomputable section

open Idealize.ShloMosaic

namespace Cert.ReferenceIdeal.Steps

open Cert.ReferenceIdeal Cert.ReferenceIdeal.Gen

/-- The gather's axes: the cloud is a batch axis, the coordinate is carried over, the position is looked up. -/
abbrev axes : GatherDims S4x3x8192 S4x8192x15x1 S4x3x8192x15 := gather_S4x3x8192_S4x8192x15x1_S4x3x8192x15_1_2_0_0_2_3_131

/-- The start index the gather reads for a result index. -/
theorem axes_siIdx (a : Fin 4) (c : Fin 3) (i : Fin 8192) (k : Fin 15) (z : Fin axes.startIndexMap.length) :
    axes.siIdx (ix4 a c i k) z = ix4 a i k 0 := by
  funext b
  refine Fin.ext ?_
  match b with
  | ⟨0, _⟩ => rfl
  | ⟨1, _⟩ => rfl
  | ⟨2, _⟩ => rfl
  | ⟨3, _⟩ => exact Nat.lt_one_iff.mp z.isLt

/-- The gather at an index is the operand at the position read there, signed and clamped. -/
theorem gather_apply {α : Type} (y : S4x3x8192.Idx → α) (n : IVec S4x8192x15x1 32) (a : Fin 4) (c : Fin 3) (i : Fin 8192) (k : Fin 15)
    (q : Fin 8192) (hq : min (n (ix4 a i k 0)).toInt.toNat 8191 = q.val) :
    Host.gather axes y n (ix4 a c i k) = y (ix3 a c q) := by
  unfold Host.gather
  refine congrArg y (funext fun e => Fin.ext ?_)
  show axes.start (ix4 a c i k) n e + axes.batchCoord (ix4 a c i k) e + axes.offCoord (ix4 a c i k) e = _
  have h012 : e = 0 ∨ e = 1 ∨ e = 2 := by
    match e with
    | ⟨0, _⟩ => exact Or.inl rfl
    | ⟨1, _⟩ => exact Or.inr (Or.inl rfl)
    | ⟨2, _⟩ => exact Or.inr (Or.inr rfl)
  rcases h012 with rfl | rfl | rfl
  · have hb : (0 : Fin 3) ∈ axes.operandBatchingDims := List.mem_singleton.mpr rfl
    rw [GatherDims.start_batching _ _ _ _ hb, GatherDims.offCoord_eq_zero _ _ _ (fun h => ((GatherDims.mem_sKept _ _).mp h).2 hb)]
    simp only [Nat.zero_add, Nat.add_zero]
    unfold GatherDims.batchCoord
    exact (dif_pos hb).trans rfl
  · have hk : (1 : Fin 3) ∈ axes.sKept := by decide
    have hb : (1 : Fin 3) ∉ axes.operandBatchingDims := by decide
    have hs : (1 : Fin 3) ∉ axes.startIndexMap := by decide
    have h0 : axes.start (ix4 a c i k) n 1 = 0 := by unfold GatherDims.start; exact dif_neg hs
    rw [h0, GatherDims.batchCoord_eq_zero _ _ _ hb]
    simp only [Nat.zero_add]
    unfold GatherDims.offCoord
    exact (dif_pos hk).trans rfl
  · have hc : (2 : Fin 3) ∈ axes.collapsedSliceDims := List.mem_singleton.mpr rfl
    have hb : (2 : Fin 3) ∉ axes.operandBatchingDims := by decide
    have hs : (2 : Fin 3) ∈ axes.startIndexMap := List.mem_singleton.mpr rfl
    rw [GatherDims.batchCoord_eq_zero _ _ _ hb, GatherDims.offCoord_eq_zero _ _ _ (fun h => ((GatherDims.mem_sKept _ _).mp h).1 hc)]
    simp only [Nat.add_zero]
    unfold GatherDims.start
    refine (dif_pos hs).trans ?_
    rw [axes_siIdx]
    exact hq

end Cert.ReferenceIdeal.Steps
-- ==== Proof.Read.lean ====
/-
  What the reference's arrays hold, entry by entry: its distances, its neighbours, and the features of a point.
-/
module

public import proofs.«01_k».proof.Proof.Reference
public import proofs.«01_k».proof.Proof.Spec
public import proofs.«01_k».proof.Proof.Gather

@[expose] public section

noncomputable section

open Idealize.ShloMosaic Idealize.ShloMosaic.TcCoe Idealize.SL.Sem

namespace Cert.ReferenceIdeal.Steps

open Cert.ReferenceIdeal Cert.ReferenceIdeal.Gen Cert.Spec Cert.Nearest

variable (x : FVec Ideal S4x8192x3 .f32) (W : FVec Ideal S64x3 .f32) (S : FVec Ideal S128x64 .f32) (b : FVec Ideal S128 .f32)

/-- A squared length is the sum of three squares. -/
theorem squares_apply (a : Fin 4) (i : Fin 8192) : squares x (ix2 a i) = ∑ c : Fin 3, x (ix3 a i c) * x (ix3 a i c) := by
  pointwise [squares]

/-- An entry of the distances is the squared distance in expanded form. -/
theorem distances_apply (a : Fin 4) (i j : Fin 8192) : distances x (ix3 a i j) = Spec.dist (cloud x a i) (cloud x a) j := by
  pointwise [distances, squares_apply]
  rfl

/-- The sort's test on two negated entries asks which distance is smaller. -/
theorem before_eq (p q : EReal) :
    (FloatOps.cmpfTotal (F := Ideal) (φ := .f32) .gt (-p : EReal) (-q : EReal) == 1#1) = decide (p < q) := by
  show (BitVec.ofBool (decide (-q < -p)) == 1#1) = decide (p < q)
  by_cases h : p < q <;> simp [h, EReal.neg_lt_neg_iff]

/-- The position along the last axis of a rank-3 array. -/
theorem along_last {A N M : ℕ} (a : Fin A) (i : Fin N) (j k : Fin M) : (ix3 a i j : (⟨3, ![A, N, M]⟩ : Shape).Idx).along 2 k = ix3 a i k := by
  funext e
  match e with
  | ⟨0, _⟩ => rfl
  | ⟨1, _⟩ => rfl
  | ⟨2, _⟩ => rfl

/-- The positions a `top_k` along the last axis gives: the order of the line's entries, sorted. -/
theorem topK_last {A N M K : ℕ} {α : Type} (gt : α → α → BitVec 1) (y : (⟨3, ![A, N, M]⟩ : Shape).Idx → α)
    (h : (⟨3, ![A, N, M]⟩ : Shape).Slices (fun _ => 0) ⟨3, ![A, N, K]⟩) (a : Fin A) (i : Fin N) (k : Fin K) (hk : k.val < M) :
    (Host.topK ⟨3, ![A, N, K]⟩ 2 gt y h).2 (ix3 a i k)
      = BitVec.ofNat 32 (sortedFrom (fun p q : Fin M => gt (y (ix3 a i p)) (y (ix3 a i q)) == 1#1) ⟨k.val, hk⟩).val := by
  unfold Host.topK Host.sort2
  simp only [dif_pos (show 2 < (⟨3, ![A, N, M]⟩ : Shape).rank from (by decide : 2 < 3))]
  have e : ∀ f : (⟨3, ![A, N, M]⟩ : Shape).Idx → BitVec 32,
      extractStridedSlice ⟨3, ![A, N, K]⟩ (fun _ => 0) f h (ix3 a i k) = f (ix3 a i ⟨k.val, hk⟩) := by
    intro f
    unfold extractStridedSlice
    refine congrArg f (funext fun e => Fin.ext ?_)
    match e with
    | ⟨0, _⟩ => exact Nat.zero_add _
    | ⟨1, _⟩ => exact Nat.zero_add _
    | ⟨2, _⟩ => exact Nat.zero_add _
  rw [e]
  show iotaInDim ⟨3, ![A, N, M]⟩ 32 2 ((ix3 a i ⟨k.val, hk⟩ : (⟨3, ![A, N, M]⟩ : Shape).Idx).along 2
    (sortedFrom (fun p q : Fin M => gt (y ((ix3 a i ⟨k.val, hk⟩ : (⟨3, ![A, N, M]⟩ : Shape).Idx).along 2 p))
      (y ((ix3 a i ⟨k.val, hk⟩ : (⟨3, ![A, N, M]⟩ : Shape).Idx).along 2 q)) == 1#1) ⟨k.val, hk⟩)) = _
  simp only [along_last]
  rfl

/-- Neighbour `k` of the reference is the point picked in round `k`. -/
theorem neighbours_apply (a : Fin 4) (i : Fin 8192)
    (hd : ∀ j j', Spec.dist (cloud x a i) (cloud x a) j < Spec.dist (cloud x a i) (cloud x a) j' + big) (k : Fin 16) :
    neighbours x (ix3 a i k) = BitVec.ofNat 32 (nearest x a i k.val).val := by
  refine (topK_last _ _ _ a i k (by omega)).trans ?_
  refine congrArg (fun f : Fin 8192 => BitVec.ofNat 32 f.val) (sortedFrom_pick _ hd _ (fun p q => ?_) k.val (by omega))
  rw [← distances_apply, ← distances_apply]
  exact before_eq _ _

variable (n : IVec S4x8192x16 32)

/-- An entry of the positions but the first. -/
theorem others_apply (a : Fin 4) (u : Fin 1) (i : Fin 8192) (k : Fin 15) : others n (ix4 a u i k) = n (ix3 a i ⟨k.val + 1, by omega⟩) := by
  pointwise [others]
  exact congrArg (fun t => n (ix3 a i t)) (Fin.ext (Nat.add_comm _ _))

/-- A number below 8192 is not negative as a 32-bit word, and lies inside the bounds the reference tests. -/
theorem small_facts (v : ℕ) (hv : v < 8192) :
    IntOp.cmpi .slt (BitVec.ofNat 32 v) 0#32 = 0#1 ∧ IntOp.cmpi .sge (BitVec.ofNat 32 v) 0#32 = 1#1
      ∧ IntOp.cmpi .sle (BitVec.ofNat 32 v) 8191#32 = 1#1 ∧ (BitVec.ofNat 32 v).toInt = v := by
  have h : (BitVec.ofNat 32 v).toInt = v := by
    rw [BitVec.toInt_eq_toNat_of_lt] <;> rw [BitVec.toNat_ofNat, Nat.mod_eq_of_lt (by omega)]
    omega
  refine ⟨?_, ?_, ?_, h⟩
  · show BitVec.ofBool ((BitVec.ofNat 32 v).slt 0#32) = 0#1
    rw [BitVec.slt, h]; simp [show ¬ ((v : ℤ) < 0) by omega]
  · show BitVec.ofBool ((0#32).sle (BitVec.ofNat 32 v)) = 1#1
    rw [BitVec.sle, h]; simp
  · show BitVec.ofBool ((BitVec.ofNat 32 v).sle 8191#32) = 1#1
    rw [BitVec.sle, h]; simp [show (v : ℤ) ≤ 8191 by omega]

variable {n} {p : Fin 4 → Fin 8192 → ℕ → Fin 8192} (hn : ∀ a i (k : Fin 16), n (ix3 a i k) = BitVec.ofNat 32 (p a i k.val).val)

include hn

/-- A position is not negative, so it is taken as it is. -/
theorem starts_apply (a : Fin 4) (i : Fin 8192) (k : Fin 15) (u : Fin 1) :
    starts n (ix4 a i k u) = BitVec.ofNat 32 (p a i (k.val + 1)).val := by
  pointwise [starts, others_apply]
  rw [hn, (small_facts _ (p a i (k.val + 1)).isLt).1]
  rfl

/-- Every position lies inside the cloud, element by element. -/
theorem insideEach_apply (a : Fin 4) (i : Fin 8192) (k : Fin 15) (u : Fin 1) : insideEach n (ix4 a i k u) = 1#1 := by
  pointwise [insideEach]
  rw [starts_apply hn, (small_facts _ (p a i (k.val + 1)).isLt).2.1, (small_facts _ (p a i (k.val + 1)).isLt).2.2.1]
  rfl

/-- Every position lies inside the cloud. -/
theorem inside_apply (j : S4x8192x15.Idx) : inside n j = 1#1 :=
  Host.reduce_andi_one _ _ _ _ _ rfl fun j => (congrArg (insideEach n) (eq_ix4 j)).trans (insideEach_apply hn _ _ _ _)

/-- The gather takes the point at the position. -/
theorem gathered_apply (a : Fin 4) (c : Fin 3) (i : Fin 8192) (k : Fin 15) :
    gathered x n (ix4 a c i k) = x (ix3 a (p a i (k.val + 1)) c) := by
  refine (gather_apply _ _ a c i k (p a i (k.val + 1)) ?_).trans ?_
  · rw [starts_apply hn, (small_facts _ (p a i (k.val + 1)).isLt).2.2.2, Int.toNat_natCast]
    omega
  · pointwise [flipped]

/-- The vector to a neighbour. -/
theorem gaps_apply (a : Fin 4) (c : Fin 3) (i : Fin 8192) (k : Fin 15) :
    gaps x n (ix4 a c i k) = gap (cloud x a i) (cloud x a (p a i (k.val + 1))) c := by
  pointwise [gaps, inside_apply hn, gathered_apply x hn, flipped]
  rfl

omit hn

variable (g : FVec Ideal S4x3x8192x15 .f32)

/-- The length of a vector. -/
theorem lengths_apply (a : Fin 4) (u : Fin 1) (i : Fin 8192) (k : Fin 15) :
    lengths g (ix4 a u i k) = len fun c => g (ix4 a c i k) := by
  pointwise [lengths]
  rfl

/-- The component along a plane's weights over the length. -/
theorem ratios_apply (a : Fin 4) (l : Fin 64) (i : Fin 8192) (k : Fin 15) :
    ratios W g (ix4 a l i k) = Ideal.div (along (fun c => g (ix4 a c i k)) fun c => W (ix2 l c)) (len fun c => g (ix4 a c i k)) := by
  pointwise [ratios, lengthsWide, lengths_apply]
  rfl

/-- The score of a plane for a vector, as the reference writes it. -/
theorem scores_apply (a : Fin 4) (l : Fin 64) (i : Fin 8192) (k : Fin 15) :
    scores W g (ix4 a l i k) = scoreRef (fun c => g (ix4 a c i k)) fun c => W (ix2 l c) := by
  pointwise [scores, lengthsWide, lengths_apply, ratios_apply]
  rfl

/-- The best score of a plane. -/
theorem bests_apply (a : Fin 4) (l : Fin 64) (i : Fin 8192) (f : ℕ → EReal)
    (hf : ∀ k : Fin 15, scores W g (ix4 a l i k) = f (k.val + 1)) : bests W g (ix3 a l i) = best f 16 := by
  pointwise [bests, hf]
  rw [← best_eq_fold f 15]
  congr 1

/-- A feature, from the best scores. -/
theorem out_apply (q : FVec Ideal S4x64x8192 .f32) (a : Fin 4) (s : Fin 128) (i : Fin 8192) :
    out S b q (ix3 a s i) = max (∑ l : Fin 64, q (ix3 a l i) * S (ix2 s l) + b (ix1 s)) 0 := by
  pointwise [out]

end Cert.ReferenceIdeal.Steps
-- ==== Proof.Bounds.lean ====
/-
  What the precondition gives: every coordinate is a real number of bounded size. Then the squared distances lie
  below the amount a picked entry grows by, and the reference's form of a score is the kernel's.
-/
module

public import proofs.«01_k».proof.Pre_no_tie
public import proofs.«01_k».proof.Proof.Spec
public import Idealize.ShloMosaic.Lib.Pointwise
public import Idealize.ShloMosaic.Lib.ReduceAll

@[expose] public section

noncomputable section

open Idealize.ShloMosaic

namespace Cert.Spec

/-- The bound on the coordinates, a real number. -/
def limit : ℝ := 100000000376832

theorem limit_eq : Ideal.ofBits .f32 0x56B5E621#32 = (limit : EReal) := by
  simp [Ideal.ofBits, Ideal.ieee, limit]
  norm_cast

theorem two_eq : two = ((2 : ℝ) : EReal) := by
  simp [two, Ideal.ofBits, Ideal.ieee]
  rw [← EReal.coe_mul, EReal.coe_eq_coe_iff]
  norm_num

theorem big_eq : big = ((13234890 * 2 ^ 76 : ℝ) : EReal) := by
  simp [big, Ideal.ofBits, Ideal.ieee]

theorem eps_pos : ∃ e : ℝ, 0 < e ∧ eps = (e : EReal) := by
  refine ⟨_, ?_, by simp [eps, Ideal.ofBits, Ideal.ieee]; rfl⟩
  positivity

/-- Every coordinate is of bounded size. -/
def Bounded (x : (⟨3, ![4, 8192, 3]⟩ : Shape).Idx → EReal) : Prop := ∀ i, size (x i) ≤ (limit : EReal)

/-- A number of bounded size is a real number between the bounds. -/
theorem real_of_size {y : EReal} (h : size y ≤ (limit : EReal)) : ∃ r : ℝ, y = r ∧ |r| ≤ limit := by
  induction y with
  | bot => simp [size] at h
  | top => simp [size] at h
  | coe r =>
    refine ⟨r, rfl, ?_⟩
    rw [size_coe] at h
    exact EReal.coe_le_coe_iff.mp h

/-- Bounded clouds are clouds of real numbers. -/
theorem Bounded.real {x : (⟨3, ![4, 8192, 3]⟩ : Shape).Idx → EReal} (h : Bounded x) (a : Fin 4) :
    ∃ P : Fin 8192 → Fin 3 → ℝ, (∀ j c, |P j c| ≤ limit) ∧ cloud x a = fun j c => (P j c : EReal) := by
  choose P hP hb using fun (j : Fin 8192) (c : Fin 3) => real_of_size (h (ix3 a j c))
  exact ⟨P, hb, funext fun j => funext fun c => hP j c⟩

/-- Between real points the expanded form is the sum of the squared differences. -/
theorem dist_coe {n : ℕ} (q : Fin 3 → ℝ) (P : Fin n → Fin 3 → ℝ) (j : Fin n) :
    dist (fun c => (q c : EReal)) (fun j c => (P j c : EReal)) j = ((∑ c, (P j c - q c) ^ 2 : ℝ) : EReal) := by
  unfold dist
  rw [two_eq]
  simp only [Fin.sum_univ_three]
  norm_cast
  ring

/-- The squared distances between bounded real points are apart by less than the amount a picked entry grows by. -/
theorem dist_lt {n : ℕ} (q : Fin 3 → ℝ) (P : Fin n → Fin 3 → ℝ) (hq : ∀ c, |q c| ≤ limit) (hP : ∀ j c, |P j c| ≤ limit) (i j : Fin n) :
    dist (fun c => (q c : EReal)) (fun j c => (P j c : EReal)) i
      < dist (fun c => (q c : EReal)) (fun j c => (P j c : EReal)) j + big := by
  rw [dist_coe, dist_coe, big_eq, ← EReal.coe_add, EReal.coe_lt_coe_iff]
  have h0 : 0 ≤ ∑ c, (P j c - q c) ^ 2 := Finset.sum_nonneg fun c _ => sq_nonneg _
  have h1 : ∀ c, (P i c - q c) ^ 2 ≤ (2 * limit) ^ 2 := fun c => by
    refine sq_le_sq' ?_ ?_
    · have := abs_le.mp (hP i c); have := abs_le.mp (hq c); linarith
    · have := abs_le.mp (hP i c); have := abs_le.mp (hq c); linarith
  have h2 : ∑ c, (P i c - q c) ^ 2 ≤ 3 * (2 * limit) ^ 2 := by
    refine (Finset.sum_le_sum fun c _ => h1 c).trans ?_
    simp
  have h3 : 3 * (2 * limit) ^ 2 < (13234890 * 2 ^ 76 : ℝ) := by unfold limit; norm_num
  linarith

/-- The length of a real vector is a positive real number. -/
theorem len_coe (v : Fin 3 → ℝ) : ∃ l : ℝ, 0 < l ∧ len (fun c => (v c : EReal)) = (l : EReal) := by
  obtain ⟨e, he, hee⟩ := eps_pos
  refine ⟨√(∑ c, v c * v c) + e, by positivity, ?_⟩
  have hs : ¬ (∑ c, v c * v c) < 0 := not_lt.mpr (Finset.sum_nonneg fun c _ => mul_self_nonneg _)
  unfold len
  have hc : (∑ c, (v c : EReal) * (v c : EReal)) = ((∑ c, v c * v c : ℝ) : EReal) := by
    simp only [Fin.sum_univ_three]; norm_cast
  rw [hc, hee, Ideal.sqrt_coe, if_neg hs, EReal.coe_add]

/-- Between bounded points the reference's score is the kernel's. -/
theorem Bounded.score {x : (⟨3, ![4, 8192, 3]⟩ : Shape).Idx → EReal} (h : Bounded x) (a : Fin 4) (i j : Fin 8192) (w : Fin 3 → EReal) :
    scoreRef (gap (cloud x a i) (cloud x a j)) w = Spec.score (gap (cloud x a i) (cloud x a j)) w := by
  obtain ⟨P, -, hP⟩ := h.real a
  obtain ⟨l, hl, hle⟩ := len_coe fun c => P j c - P i c
  refine scoreRef_eq _ _ hl ?_
  rw [← hle, hP]
  rfl

/-- The distances from a point of a bounded cloud are apart by less than the amount a picked entry grows by. -/
theorem Bounded.dist_lt {x : (⟨3, ![4, 8192, 3]⟩ : Shape).Idx → EReal} (h : Bounded x) (a : Fin 4) (i j j' : Fin 8192) :
    dist (cloud x a i) (cloud x a) j < dist (cloud x a i) (cloud x a) j' + big := by
  obtain ⟨P, hb, hP⟩ := h.real a
  rw [hP]
  exact Spec.dist_lt (P i) P (hb i) hb j j'

end Cert.Spec

namespace Cert.Pre_no_tie

/-- The precondition bounds every coordinate. -/
theorem bounded [Facts] (x : FVec Ideal S4x8192x3 .f32) (W : FVec Ideal S64x3 .f32) (S : FVec Ideal S128x64 .f32) (b : FVec Ideal S128 .f32)
    (h : fn (F := Ideal) x W S b = fun _ => 1#1) : Spec.Bounded x := by
  have h1 : fn (F := Ideal) x W S b ix0 = 1#1 := congrFun h _
  unfold fn fn_part1 fn_part2 at h1
  have h2 := (IntOp.andi_eq_one.1 h1).1
  have : Subsingleton S_.Idx := ⟨fun i j => funext fun a => a.elim0⟩
  intro i
  have h3 := Host.reduce_andi_all _ _ _ _ _ h2 i
  have h4 : Ideal.cmp .ole (Spec.size (x i)) (Ideal.ofBits .f32 0x56B5E621#32) = 1#1 := h3
  rw [Spec.limit_eq] at h4
  by_contra hn
  simp [Ideal.cmp, hn] at h4

end Cert.Pre_no_tie
-- ==== Proof.Equation.lean ====
/-
  The equation: over bounded clouds the reference's neighbours are the picked points, and its features are the kernel's.
-/
module

public import proofs.«01_k».proof.Proof.Read
public import proofs.«01_k».proof.Proof.Bounds

@[expose] public section

noncomputable section

open Idealize.ShloMosaic

namespace Cert.ReferenceIdeal.Steps

open Cert.ReferenceIdeal Cert.ReferenceIdeal.Gen Cert.Spec

variable (x : FVec Ideal S4x8192x3 .f32) (W : FVec Ideal S64x3 .f32) (S : FVec Ideal S128x64 .f32) (b : FVec Ideal S128 .f32)

/-- The reference's neighbours are the picked points. -/
theorem neighbours_eq (h : Bounded x) :
    neighbours x = fun j => BitVec.ofNat 32 (nearest x (j 0) (j 1) (j 2).val).val := by
  funext j
  refine (congrArg (neighbours x) (eq_ix3 j)).trans ?_
  exact neighbours_apply x (j 0) (j 1) (h.dist_lt (j 0) (j 1)) (j 2)

/-- The score of a plane for a neighbour is the score at that pick. -/
theorem scores_eq (h : Bounded x) (a : Fin 4) (l : Fin 64) (i : Fin 8192) (k : Fin 15) :
    scores W (gaps x (neighbours x)) (ix4 a l i k)
      = scoreAt (cloud x a i) (cloud x a) (fun c => W (ix2 l c)) (k.val + 1) := by
  have hn : ∀ a i (k : Fin 16), neighbours x (ix3 a i k) = BitVec.ofNat 32 (nearest x a i k.val).val :=
    fun a i k => neighbours_apply x a i (h.dist_lt a i) k
  rw [scores_apply]
  have hg : (fun c => gaps x (neighbours x) (ix4 a c i k)) = gap (cloud x a i) (cloud x a (nearest x a i (k.val + 1))) :=
    funext fun c => gaps_apply x hn a c i k
  rw [hg]
  exact h.score a i _ _

/-- The reference's feature of a point is the feature the kernel writes. -/
theorem feature_eq (h : Bounded x) (a : Fin 4) (s : Fin 128) (i : Fin 8192) :
    out S b (bests W (gaps x (neighbours x))) (ix3 a s i) = featureAt x W S b a i s := by
  rw [out_apply]
  simp only [bests_apply W _ a _ i _ fun k => scores_eq x W h a _ i k]
  rfl

/-- The reference's features are the kernel's, transposed. -/
theorem out_eq (h : Bounded x) :
    out S b (bests W (gaps x (neighbours x))) = fun j => featureAt x W S b (j 0) (j 2) (j 1) := by
  funext j
  refine (congrArg (out S b (bests W (gaps x (neighbours x)))) (eq_ix3 j)).trans ?_
  exact feature_eq x W S b h (j 0) (j 1) (j 2)

end Cert.ReferenceIdeal.Steps
-- ==== Proof.lean ====
/-
  The claims, put together: every program runs and leaves its arguments and semaphores as they were, the idealized kernel
  is the kernel's own text, and under the precondition it ends with the reference's three results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.Gen.ReferenceIdeal.Run
public import proofs.«01_k».proof.Proof.Arrays
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs from any memory, leaves its arguments unchanged, and has no semaphore to leave raised. -/
theorem reference_frame : Cert.quiescent_ReferenceIdeal (hReferenceIdeal := Cert.ReferenceIdeal.Gen.facts) := fun m g _ =>
  (θ_run Cert.ReferenceIdeal.defs _ _).mono
    (fun r h => ⟨fun c => (h c).2.2.2, sem_eq_zero_of_no_sems (by decide) r.2⟩)
    (Cert.ReferenceIdeal.Steps.run m g)

/-- The idealized kernel and the reference end with the same features, the same points and the same neighbours. -/
theorem algebraic :
    Cert.algebraic_KernelIdeal_ReferenceIdeal (hKernelIdeal := Cert.KernelIdeal.Gen.facts) (hReferenceIdeal := Cert.ReferenceIdeal.Gen.facts)
      (hPre_no_tie := Cert.Pre_no_tie.Gen.facts) := by
  intro m g m' g' hpre hargs
  have hb : ∀ c : Dev Cert.KernelIdeal.nD, Cert.Spec.Bounded (Cert.KernelIdeal.Arrays.xyz m c) := fun c =>
    @Cert.Pre_no_tie.bounded Cert.Pre_no_tie.Gen.facts _ _ _ _ (hpre c)
  refine ⟨fun c => transpose _ [0, 2, 1] (Cert.KernelIdeal.Arrays.features m c) Cert.KernelIdeal.Gen.transposes_S4x8192x128_S4x128x8192_0_2_1,
    fun c => Cert.KernelIdeal.Arrays.xyz m c, fun c => Cert.KernelIdeal.Arrays.columns m c, ?_, ?_⟩
  · refine (θ_run _ _ _).mono (fun r h c => ?_) (Cert.KernelIdeal.Arrays.run m g)
    obtain ⟨h1, h2, h3, h4, h5, h6⟩ := h c
    exact ⟨h1, h3, h2, h3, h4, h5, h6⟩
  · refine (θ_run _ _ _).mono (fun r h c => ?_) (Cert.ReferenceIdeal.Steps.run m' g')
    obtain ⟨h1, h2, h3, h4, h5, h6, h7⟩ := h c
    obtain ⟨a0, a1, a2, a3⟩ := hargs c
    refine ⟨h1.trans ?_, h2.trans a0, h3.trans ?_, h4, h5, h6, h7⟩
    · rw [a0, a1, a2, a3]
      refine (Cert.ReferenceIdeal.Steps.out_eq _ _ _ _ (hb c)).trans ?_
      exact (Cert.KernelIdeal.Arrays.transposed_eq m c).symm
    · rw [a0]
      exact Cert.ReferenceIdeal.Steps.neighbours_eq _ (hb c)

/-- The five claims. -/
theorem claim : Cert.Claim := ⟨Cert.Kernel.Gen.facts, Cert.KernelIdeal.Gen.facts, Cert.ReferenceIdeal.Gen.facts, Cert.Pre_no_tie.Gen.facts,
  fun m ρ _ => Cert.Kernel.Gen.frame m ρ,
  fun m ρ _ => Cert.Kernel.Gen.frame m ρ,
  fun m ρ _ => Cert.KernelIdeal.Gen.frame m ρ,
  fun m ρ _ => reference_frame m ρ trivial,
  fun m ρ _ => reference_frame m ρ trivial,
  trivial, algebraic⟩

end Cert.Proof

end
